-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admitted [hPre_admitted : Cert.Pre_admitted.Facts] (m : (ℓ : Loc Cert.KernelIdeal.nD Cert.KernelIdeal.τ Cert.KernelIdeal.sig) → Buf (Elt Ideal) ℓ) : Prop :=
  ∀ c : Dev Cert.KernelIdeal.nD,
    (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admitted [hPre_admitted : Cert.Pre_admitted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_admitted [hKernelIdeal : Cert.KernelIdeal.Facts] [hPre_admitted : Cert.Pre_admitted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admitted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_admitted [hReferenceIdeal : Cert.ReferenceIdeal.Facts] [hPre_admitted : Cert.Pre_admitted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admitted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_admitted [hKernelIdeal : Cert.KernelIdeal.Facts] [hReferenceIdeal : Cert.ReferenceIdeal.Facts] [hPre_admitted : Cert.Pre_admitted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admitted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_admitted : Cert.Pre_admitted.Facts),
    quiescent_Kernel (hKernel := hKernel)
    ∧ quiescent_KernelIdeal (hKernelIdeal := hKernelIdeal)
    ∧ quiescent_KernelIdeal_pre_admitted (hKernelIdeal := hKernelIdeal) (hPre_admitted := hPre_admitted)
    ∧ quiescent_ReferenceIdeal (hReferenceIdeal := hReferenceIdeal)
    ∧ quiescent_ReferenceIdeal_pre_admitted (hReferenceIdeal := hReferenceIdeal) (hPre_admitted := hPre_admitted)
    ∧ preserves_Kernel_KernelIdeal
    ∧ algebraic_KernelIdeal_ReferenceIdeal_pre_admitted (hKernelIdeal := hKernelIdeal) (hReferenceIdeal := hReferenceIdeal) (hPre_admitted := hPre_admitted)
-- ==== Pre_admitted.lean ====
abbrev S16x4096x128 : Shape := ⟨3, ![16, 4096, 128]⟩
abbrev S16 : Shape := ⟨1, ![16]⟩
abbrev S512x128 : Shape := ⟨2, ![512, 128]⟩
abbrev S512 : Shape := ⟨1, ![512]⟩
abbrev S32x512 : Shape := ⟨2, ![32, 512]⟩
abbrev S32 : Shape := ⟨1, ![32]⟩
abbrev S1x32 : Shape := ⟨2, ![1, 32]⟩
abbrev S1 : Shape := ⟨1, ![1]⟩
abbrev S_ : Shape := ⟨0, ![]⟩
abbrev S128x512 : Shape := ⟨2, ![128, 512]⟩
abbrev S16x4096x512 : Shape := ⟨3, ![16, 4096, 512]⟩
abbrev S1x1x512 : Shape := ⟨3, ![1, 1, 512]⟩
abbrev S512x32 : Shape := ⟨2, ![512, 32]⟩
abbrev S16x4096x32 : Shape := ⟨3, ![16, 4096, 32]⟩
abbrev S1x1x32 : Shape := ⟨3, ![1, 1, 32]⟩
abbrev S32x1 : Shape := ⟨2, ![32, 1]⟩
abbrev S16x4096x1 : Shape := ⟨3, ![16, 4096, 1]⟩
abbrev S1x1x1 : Shape := ⟨3, ![1, 1, 1]⟩
abbrev S16x4096 : Shape := ⟨2, ![16, 4096]⟩
abbrev S4096 : Shape := ⟨1, ![4096]⟩
abbrev S1x4096 : Shape := ⟨2, ![1, 4096]⟩
abbrev S16x1 : Shape := ⟨2, ![16, 1]⟩
abbrev S16x1x1 : Shape := ⟨3, ![16, 1, 1]⟩
abbrev S126 : Shape := ⟨1, ![126]⟩
abbrev S1x126 : Shape := ⟨2, ![1, 126]⟩
abbrev S16x126 : Shape := ⟨2, ![16, 126]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S16 : S_.BroadcastsInDim S16 (![] : Fin 0 → Fin S16.rank)
  reducesTo_S16_S_d0 : S16.ReducesTo [0] S_
  transposes_S512x128_S128x512_1_0 : S512x128.Transposes [1, 0] S128x512
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  bcast_S_S16x4096x512 : S_.BroadcastsInDim S16x4096x512 (![] : Fin 0 → Fin S16x4096x512.rank)
  transposes_S32x512_S512x32_1_0 : S32x512.Transposes [1, 0] S512x32
  bcast_S32_S1x1x32_2 : S32.BroadcastsInDim S1x1x32 (![2] : Fin 1 → Fin S1x1x32.rank)
  bcast_S1x1x32_S16x4096x32_0_1_2 : S1x1x32.BroadcastsInDim S16x4096x32 (![0, 1, 2] : Fin 3 → Fin S16x4096x32.rank)
  transposes_S1x32_S32x1_1_0 : S1x32.Transposes [1, 0] S32x1
  bcast_S1_S1x1x1_2 : S1.BroadcastsInDim S1x1x1 (![2] : Fin 1 → Fin S1x1x1.rank)
  bcast_S1x1x1_S16x4096x1_0_1_2 : S1x1x1.BroadcastsInDim S16x4096x1 (![0, 1, 2] : Fin 3 → Fin S16x4096x1.rank)
  bcast_S_S16x4096x1 : S_.BroadcastsInDim S16x4096x1 (![] : Fin 0 → Fin S16x4096x1.rank)
  shapeCasts_S16x4096x1_S16x4096 : S16x4096x1.ShapeCasts S16x4096
  bcast_S4096_S1x4096_1 : S4096.BroadcastsInDim S1x4096 (![1] : Fin 1 → Fin S1x4096.rank)
  bcast_S16_S16x1_0 : S16.BroadcastsInDim S16x1 (![0] : Fin 1 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  bcast_S_S16x4096 : S_.BroadcastsInDim S16x4096 (![] : Fin 0 → Fin S16x4096.rank)
  bcast_S_S16x1 : S_.BroadcastsInDim S16x1 (![] : Fin 0 → Fin S16x1.rank)
  shapeCasts_S16x1_S16x1x1 : S16x1.ShapeCasts S16x1x1
  bcast_S_S16x1x1 : S_.BroadcastsInDim S16x1x1 (![] : Fin 0 → Fin S16x1x1.rank)
  bcast_S1x1x1_S16x1x1_0_1_2 : S1x1x1.BroadcastsInDim S16x1x1 (![0, 1, 2] : Fin 3 → Fin S16x1x1.rank)
  reducesTo_S16x1x1_S16x1_d2 : S16x1x1.ReducesTo [2] S16x1
  bcast_S_S126 : S_.BroadcastsInDim S126 (![] : Fin 0 → Fin S126.rank)
  bcast_S126_S1x126_1 : S126.BroadcastsInDim S1x126 (![1] : Fin 1 → Fin S1x126.rank)
  bcast_S16x1_S16x126_0_1 : S16x1.BroadcastsInDim S16x126 (![0, 1] : Fin 2 → Fin S16x126.rank)
  bcast_S1x126_S16x126_0_1 : S1x126.BroadcastsInDim S16x126 (![0, 1] : Fin 2 → Fin S16x126.rank)
  bcast_S_S16x126 : S_.BroadcastsInDim S16x126 (![] : Fin 0 → Fin S16x126.rank)
  reducesTo_S16x126_S16_d1 : S16x126.ReducesTo [1] S16
  dot_S16x4096x128_S128x512_S16x4096x512_2_0_01_1_n_n_wf : DotDims.WF S16x4096x128 S128x512 S16x4096x512 [2] [0] [0, 1] [1] [] []
  dot_S16x4096x512_S512x32_S16x4096x32_2_0_01_1_n_n_wf : DotDims.WF S16x4096x512 S512x32 S16x4096x32 [2] [0] [0, 1] [1] [] []
  dot_S16x4096x32_S32x1_S16x4096x1_2_0_01_1_n_n_wf : DotDims.WF S16x4096x32 S32x1 S16x4096x1 [2] [0] [0, 1] [1] [] []
  gather_S16x4096_S16x1x1_S16x1_n_1_0_0_1_2_11_wf : GatherDims.WF S16x4096 S16x1x1 S16x1 [] [1] [0] [1] [0] 2 ![1, 1]

variable [Facts]

variable {F : FTy → Type} [FloatOps F]
def dot_S16x4096x128_S128x512_S16x4096x512_2_0_01_1_n_n : DotDims S16x4096x128 S128x512 S16x4096x512 where
  lhsContracting := [2]
  rhsContracting := [0]
  lhsNonContracting := [0, 1]
  rhsNonContracting := [1]
  lhsBatch := []
  rhsBatch := []
  wf := dot_S16x4096x128_S128x512_S16x4096x512_2_0_01_1_n_n_wf
def dot_S16x4096x512_S512x32_S16x4096x32_2_0_01_1_n_n : DotDims S16x4096x512 S512x32 S16x4096x32 where
  lhsContracting := [2]
  rhsContracting := [0]
  lhsNonContracting := [0, 1]
  rhsNonContracting := [1]
  lhsBatch := []
  rhsBatch := []
  wf := dot_S16x4096x512_S512x32_S16x4096x32_2_0_01_1_n_n_wf
def dot_S16x4096x32_S32x1_S16x4096x1_2_0_01_1_n_n : DotDims S16x4096x32 S32x1 S16x4096x1 where
  lhsContracting := [2]
  rhsContracting := [0]
  lhsNonContracting := [0, 1]
  rhsNonContracting := [1]
  lhsBatch := []
  rhsBatch := []
  wf := dot_S16x4096x32_S32x1_S16x4096x1_2_0_01_1_n_n_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def gather_S16x4096_S16x1x1_S16x1_n_1_0_0_1_2_11 : GatherDims S16x4096 S16x1x1 S16x1 where
  offsetDims := []
  collapsedSliceDims := [1]
  operandBatchingDims := [0]
  startIndicesBatchingDims := [0]
  startIndexMap := [1]
  indexVectorDim := 2
  sliceSizes := ![1, 1]
  wf := gather_S16x4096_S16x1x1_S16x1_n_1_0_0_1_2_11_wf

def fn_where {F : FTy → Type} [FloatOps F] (arg0 : IVec S16x4096 1) (arg1 : FVec F S16x4096 .f32) (arg2 : FVec F S_ .f32) : FVec F S16x4096 .f32 :=
  let v0 : FVec F S_ .f32 := id arg2
  let v1 : FVec F S16x4096 .f32 := broadcastInDim S16x4096 ![] bcast_S_S16x4096 v0
  let v2 : FVec F S16x4096 .f32 := select arg0 arg1 v1
  v2

def fn_sort {F : FTy → Type} [FloatOps F] (arg0 : FVec F S16x4096 .f32) : FVec F S16x4096 .f32 :=
  let v0 : FVec F S16x4096 .f32 := (fun x => Host.sort S16x4096 1 comparator_f32_d1 x) arg0
  v0

def fn_where_0 {F : FTy → Type} [FloatOps F] (arg0 : IVec S16 1) (arg1 : IVec S16 32) (arg2 : IVec S16 32) : IVec S16 32 :=
  let v0 : IVec S16 32 := select arg0 arg1 arg2
  v0

def fn_floor_divide {F : FTy → Type} [FloatOps F] (arg0 : IVec S16 32) (arg1 : IVec S_ 32) : IVec S16 32 :=
  let v0 : IVec S_ 32 := id arg1
  let v1 : IVec S16 32 := broadcastInDim S16 ![] bcast_S_S16 v0
  let v2 : IVec S16 32 := Host.divsi arg0 v1
  let v3 : IVec S16 32 := signi arg0
  let v4 : IVec S_ 32 := signi v0
  let v5 : IVec S16 32 := broadcastInDim S16 ![] bcast_S_S16 v4
  let v6 : IVec S16 1 := cmpi .ne v3 v5
  let v7 : IVec S16 32 := broadcastInDim S16 ![] bcast_S_S16 v0
  let v8 : IVec S16 32 := Host.remsi arg0 v7
  let c : IVec S_ 32 := constantI S_ 32 0#32
  let v9 : IVec S16 32 := broadcastInDim S16 ![] bcast_S_S16 c
  let v10 : IVec S16 1 := cmpi .ne v8 v9
  let v11 : IVec S16 1 := andi v6 v10
  let c_0 : IVec S_ 32 := constantI S_ 32 1#32
  let v12 : IVec S16 32 := broadcastInDim S16 ![] bcast_S_S16 c_0
  let v13 : IVec S16 32 := subi v2 v12
  let v14 : IVec S16 32 := fn_where_0 (F := F) v11 v13 v2
  v14

def fn_take_along_axis {F : FTy → Type} [FloatOps F] (arg0 : FVec F S16x4096 .f32) (arg1 : IVec S16x1 32) : FVec F S16x1 .f32 :=
  let c : IVec S_ 32 := constantI S_ 32 0#32
  let v0 : IVec S16x1 32 := broadcastInDim S16x1 ![] bcast_S_S16x1 c
  let v1 : IVec S16x1 1 := cmpi .slt arg1 v0
  let c_0 : IVec S_ 32 := constantI S_ 32 4096#32
  let v2 : IVec S16x1 32 := broadcastInDim S16x1 ![] bcast_S_S16x1 c_0
  let v3 : IVec S16x1 32 := addi arg1 v2
  let v4 : IVec S16x1 32 := select v1 v3 arg1
  let v5 : IVec S16x1x1 32 := shapeCast S16x1x1 v4 shapeCasts_S16x1_S16x1x1
  let c_1 : IVec S1 32 := constantI S1 32 4095#32
  let c_2 : IVec S_ 32 := constantI S_ 32 0#32
  let v6 : IVec S16x1x1 32 := broadcastInDim S16x1x1 ![] bcast_S_S16x1x1 c_2
  let v7 : IVec S16x1x1 1 := cmpi .sge v5 v6
  let v8 : IVec S1x1x1 32 := broadcastInDim S1x1x1 ![2] bcast_S1_S1x1x1_2 c_1
  let v9 : IVec S16x1x1 32 := broadcastInDim S16x1x1 ![0, 1, 2] bcast_S1x1x1_S16x1x1_0_1_2 v8
  let v10 : IVec S16x1x1 1 := cmpi .sle v5 v9
  let v11 : IVec S16x1x1 1 := andi v7 v10
  let c_3 : IVec S_ 1 := constantI S_ 1 1#1
  let v12 : IVec S16x1 1 := (fun x v => Host.reduce IntOp.andi x v reducesTo_S16x1x1_S16x1_d2 h_S_) v11 c_3
  let v13 : FVec F S16x1 .f32 := (fun x i => Host.gather gather_S16x4096_S16x1x1_S16x1_n_1_0_0_1_2_11 x i) arg0 v5
  let cst : FVec F S_ .f32 := constant S_ .f32 0x7FC00000#32
  let v14 : FVec F S16x1 .f32 := broadcastInDim S16x1 ![] bcast_S_S16x1 cst
  let v15 : FVec F S16x1 .f32 := select v12 v13 v14
  v15

def fn_part5 {F : FTy → Type} [FloatOps F] (main_v34 : IVec S_ 1) (main_v40 : IVec S_ 1) (main_v83 : FVec F S16x1 .f32) (main_v90 : FVec F S1x126 .f32) (main_v91 : FVec F S16x126 .f32) (main_v92 : FVec F S16x126 .f32) : IVec S_ 1 :=
  let main_v93 : FVec F S16x126 .f32 := mulf main_v91 main_v92
  let main_v94 : FVec F S16x126 .f32 := Host.floor main_v93
  let main_cst_25 : FVec F S_ .f32 := constant S_ .f32 0x4B7FFFFF#32
  let main_v95 : FVec F S16x126 .f32 := broadcastInDim S16x126 ![] bcast_S_S16x126 main_cst_25
  let main_v96 : FVec F S16x126 .f32 := minimumf main_v94 main_v95
  let main_v97 : FVec F S16x126 .f32 := broadcastInDim S16x126 ![0, 1] bcast_S16x1_S16x126_0_1 main_v83
  let main_v98 : FVec F S16x126 .f32 := broadcastInDim S16x126 ![0, 1] bcast_S1x126_S16x126_0_1 main_v90
  let main_v99 : FVec F S16x126 .f32 := mulf main_v97 main_v98
  let main_v100 : IVec S16x126 1 := cmpf .ole main_v99 main_v96
  let main_c_26 : IVec S_ 1 := constantI S_ 1 0#1
  let main_v101 : IVec S16 1 := (fun x v => Host.reduce IntOp.ori x v reducesTo_S16x126_S16_d1 h_S_) main_v100 main_c_26
  let main_c_27 : IVec S_ 1 := constantI S_ 1 1#1
  let main_v102 : IVec S_ 1 := (fun x v => Host.reduce IntOp.andi x v reducesTo_S16_S_d0 h_S_) main_v101 main_c_27
  let main_v103 : IVec S_ 1 := andi main_v34 main_v40
  let main_v104 : IVec S_ 1 := andi main_v103 main_v102
  main_v104

def fn_part4 {F : FTy → Type} [FloatOps F] (main_arg1 : IVec S16 32) (main_v34 : IVec S_ 1) (main_v40 : IVec S_ 1) (main_v73 : FVec F S16x4096 .f32) : IVec S_ 1 :=
  let main_v74 : FVec F S16x4096 .f32 := Host.negf main_v73
  let main_c_20 : IVec S_ 32 := constantI S_ 32 16#32
  let main_v75 : IVec S16 32 := fn_floor_divide (F := F) main_arg1 main_c_20
  let main_c_21 : IVec S_ 32 := constantI S_ 32 1#32
  let main_v76 : IVec S16 32 := broadcastInDim S16 ![] bcast_S_S16 main_c_21
  let main_v77 : IVec S16 32 := addi main_v75 main_v76
  let main_c_22 : IVec S_ 32 := constantI S_ 32 1#32
  let main_v78 : IVec S16 32 := broadcastInDim S16 ![] bcast_S_S16 main_c_22
  let main_v79 : IVec S16 32 := subi main_v77 main_v78
  let main_v80 : IVec S16x1 32 := broadcastInDim S16x1 ![0] bcast_S16_S16x1_0 main_v79
  let main_v81 : FVec F S16x1 .f32 := fn_take_along_axis (F := F) main_v74 main_v80
  let main_v82 : IVec S16x1 32 := broadcastInDim S16x1 ![0] bcast_S16_S16x1_0 main_v77
  let main_v83 : FVec F S16x1 .f32 := fn_take_along_axis (F := F) main_v74 main_v82
  let main_v84 : IVec S126 32 := iotaInDim S126 32 0
  let main_c_23 : IVec S_ 32 := constantI S_ 32 24#32
  let main_v85 : IVec S126 32 := broadcastInDim S126 ![] bcast_S_S126 main_c_23
  let main_v86 : IVec S126 32 := addi main_v85 main_v84
  let main_v87 : FVec F S126 .f32 := sitofp .f32 main_v86
  let main_cst_24 : FVec F S_ .f32 := constant S_ .f32 0x40000000#32
  let main_v88 : FVec F S126 .f32 := broadcastInDim S126 ![] bcast_S_S126 main_cst_24
  let main_v89 : FVec F S126 .f32 := Host.powf main_v88 main_v87
  let main_v90 : FVec F S1x126 .f32 := broadcastInDim S1x126 ![1] bcast_S126_S1x126_1 main_v89
  let main_v91 : FVec F S16x126 .f32 := broadcastInDim S16x126 ![0, 1] bcast_S16x1_S16x126_0_1 main_v81
  let main_v92 : FVec F S16x126 .f32 := broadcastInDim S16x126 ![0, 1] bcast_S1x126_S16x126_0_1 main_v90
  fn_part5 (F := F) main_v34 main_v40 main_v83 main_v90 main_v91 main_v92

def fn_part3 {F : FTy → Type} [FloatOps F] (main_arg1 : IVec S16 32) (main_arg6 : FVec F S1x32 .f32) (main_arg7 : FVec F S1 .f32) (main_v34 : IVec S_ 1) (main_v40 : IVec S_ 1) (main_v52 : FVec F S16x4096x32 .f32) : IVec S_ 1 :=
  let main_v53 : FVec F S32x1 .f32 := (transpose S32x1 [1, 0] · transposes_S1x32_S32x1_1_0) main_arg6
  let main_v54 : FVec F S16x4096x1 .f32 := (fun l r => Host.dotGeneral dot_S16x4096x32_S32x1_S16x4096x1_2_0_01_1_n_n none l r) main_v52 main_v53
  let main_v55 : FVec F S1x1x1 .f32 := broadcastInDim S1x1x1 ![2] bcast_S1_S1x1x1_2 main_arg7
  let main_v56 : FVec F S16x4096x1 .f32 := broadcastInDim S16x4096x1 ![0, 1, 2] bcast_S1x1x1_S16x4096x1_0_1_2 main_v55
  let main_v57 : FVec F S16x4096x1 .f32 := addf main_v54 main_v56
  let main_v58 : FVec F S16x4096x1 .f32 := Host.negf main_v57
  let main_v59 : FVec F S16x4096x1 .f32 := Host.exp main_v58
  let main_cst_17 : FVec F S_ .f32 := constant S_ .f32 0x3F800000#32
  let main_v60 : FVec F S16x4096x1 .f32 := broadcastInDim S16x4096x1 ![] bcast_S_S16x4096x1 main_cst_17
  let main_v61 : FVec F S16x4096x1 .f32 := addf main_v60 main_v59
  let main_cst_18 : FVec F S_ .f32 := constant S_ .f32 0x3F800000#32
  let main_v62 : FVec F S16x4096x1 .f32 := broadcastInDim S16x4096x1 ![] bcast_S_S16x4096x1 main_cst_18
  let main_v63 : FVec F S16x4096x1 .f32 := Host.divf main_v62 main_v61
  let main_v64 : FVec F S16x4096 .f32 := shapeCast S16x4096 main_v63 shapeCasts_S16x4096x1_S16x4096
  let main_v65 : IVec S4096 32 := iotaInDim S4096 32 0
  let main_v66 : IVec S1x4096 32 := broadcastInDim S1x4096 ![1] bcast_S4096_S1x4096_1 main_v65
  let main_v67 : IVec S16x1 32 := broadcastInDim S16x1 ![0] bcast_S16_S16x1_0 main_arg1
  let main_v68 : IVec S16x4096 32 := broadcastInDim S16x4096 ![0, 1] bcast_S1x4096_S16x4096_0_1 main_v66
  let main_v69 : IVec S16x4096 32 := broadcastInDim S16x4096 ![0, 1] bcast_S16x1_S16x4096_0_1 main_v67
  let main_v70 : IVec S16x4096 1 := cmpi .slt main_v68 main_v69
  let main_cst_19 : FVec F S_ .f32 := constant S_ .f32 0xFF800000#32
  let main_v71 : FVec F S16x4096 .f32 := fn_where (F := F) main_v70 main_v64 main_cst_19
  let main_v72 : FVec F S16x4096 .f32 := Host.negf main_v71
  let main_v73 : FVec F S16x4096 .f32 := fn_sort (F := F) main_v72
  fn_part4 (F := F) main_arg1 main_v34 main_v40 main_v73

def fn_part2 {F : FTy → Type} [FloatOps F] (main_arg0 : FVec F S16x4096x128 .f32) (main_arg1 : IVec S16 32) (main_arg2 : FVec F S512x128 .f32) (main_arg3 : FVec F S512 .f32) (main_arg4 : FVec F S32x512 .f32) (main_arg5 : FVec F S32 .f32) (main_arg6 : FVec F S1x32 .f32) (main_arg7 : FVec F S1 .f32) (main_v29 : IVec S_ 1) (main_v32 : IVec S1 1) (main_c_12 : IVec S_ 1) : IVec S_ 1 :=
  let main_v33 : IVec S_ 1 := (fun x v => Host.reduce IntOp.andi x v reducesTo_S1_S_d0 h_S_) main_v32 main_c_12
  let main_v34 : IVec S_ 1 := andi main_v29 main_v33
  let main_c_13 : IVec S_ 32 := constantI S_ 32 16#32
  let main_v35 : IVec S16 32 := broadcastInDim S16 ![] bcast_S_S16 main_c_13
  let main_v36 : IVec S16 1 := cmpi .sge main_arg1 main_v35
  let main_c_14 : IVec S_ 32 := constantI S_ 32 4096#32
  let main_v37 : IVec S16 32 := broadcastInDim S16 ![] bcast_S_S16 main_c_14
  let main_v38 : IVec S16 1 := cmpi .sle main_arg1 main_v37
  let main_v39 : IVec S16 1 := andi main_v36 main_v38
  let main_c_15 : IVec S_ 1 := constantI S_ 1 1#1
  let main_v40 : IVec S_ 1 := (fun x v => Host.reduce IntOp.andi x v reducesTo_S16_S_d0 h_S_) main_v39 main_c_15
  let main_v41 : FVec F S128x512 .f32 := (transpose S128x512 [1, 0] · transposes_S512x128_S128x512_1_0) main_arg2
  let main_v42 : FVec F S16x4096x512 .f32 := (fun l r => Host.dotGeneral dot_S16x4096x128_S128x512_S16x4096x512_2_0_01_1_n_n none l r) main_arg0 main_v41
  let main_v43 : FVec F S1x1x512 .f32 := broadcastInDim S1x1x512 ![2] bcast_S512_S1x1x512_2 main_arg3
  let main_v44 : FVec F S16x4096x512 .f32 := broadcastInDim S16x4096x512 ![0, 1, 2] bcast_S1x1x512_S16x4096x512_0_1_2 main_v43
  let main_v45 : FVec F S16x4096x512 .f32 := addf main_v42 main_v44
  let main_cst_16 : FVec F S_ .f32 := constant S_ .f32 0x00000000#32
  let main_v46 : FVec F S16x4096x512 .f32 := broadcastInDim S16x4096x512 ![] bcast_S_S16x4096x512 main_cst_16
  let main_v47 : FVec F S16x4096x512 .f32 := maximumf main_v45 main_v46
  let main_v48 : FVec F S512x32 .f32 := (transpose S512x32 [1, 0] · transposes_S32x512_S512x32_1_0) main_arg4
  let main_v49 : FVec F S16x4096x32 .f32 := (fun l r => Host.dotGeneral dot_S16x4096x512_S512x32_S16x4096x32_2_0_01_1_n_n none l r) main_v47 main_v48
  let main_v50 : FVec F S1x1x32 .f32 := broadcastInDim S1x1x32 ![2] bcast_S32_S1x1x32_2 main_arg5
  let main_v51 : FVec F S16x4096x32 .f32 := broadcastInDim S16x4096x32 ![0, 1, 2] bcast_S1x1x32_S16x4096x32_0_1_2 main_v50
  let main_v52 : FVec F S16x4096x32 .f32 := addf main_v49 main_v51
  fn_part3 (F := F) main_arg1 main_arg6 main_arg7 main_v34 main_v40 main_v52

def fn_part1 {F : FTy → Type} [FloatOps F] (main_arg0 : FVec F S16x4096x128 .f32) (main_arg1 : IVec S16 32) (main_arg2 : FVec F S512x128 .f32) (main_arg3 : FVec F S512 .f32) (main_arg4 : FVec F S32x512 .f32) (main_arg5 : FVec F S32 .f32) (main_arg6 : FVec F S1x32 .f32) (main_arg7 : FVec F S1 .f32) (main_v14 : IVec S_ 1) (main_v15 : FVec F S32x512 .f32) (main_cst_5 : FVec F S_ .f32) : IVec S_ 1 :=
  let main_v16 : FVec F S32x512 .f32 := broadcastInDim S32x512 ![] bcast_S_S32x512 main_cst_5
  let main_v17 : IVec S32x512 1 := cmpf .olt main_v15 main_v16
  let main_c_6 : IVec S_ 1 := constantI S_ 1 1#1
  let main_v18 : IVec S_ 1 := (fun x v => Host.reduce IntOp.andi x v reducesTo_S32x512_S_d0_1 h_S_) main_v17 main_c_6
  let main_v19 : IVec S_ 1 := andi main_v14 main_v18
  let main_v20 : FVec F S32 .f32 := Host.absf main_arg5
  let main_cst_7 : FVec F S_ .f32 := constant S_ .f32 0x7F800000#32
  let main_v21 : FVec F S32 .f32 := broadcastInDim S32 ![] bcast_S_S32 main_cst_7
  let main_v22 : IVec S32 1 := cmpf .olt main_v20 main_v21
  let main_c_8 : IVec S_ 1 := constantI S_ 1 1#1
  let main_v23 : IVec S_ 1 := (fun x v => Host.reduce IntOp.andi x v reducesTo_S32_S_d0 h_S_) main_v22 main_c_8
  let main_v24 : IVec S_ 1 := andi main_v19 main_v23
  let main_v25 : FVec F S1x32 .f32 := Host.absf main_arg6
  let main_cst_9 : FVec F S_ .f32 := constant S_ .f32 0x7F800000#32
  let main_v26 : FVec F S1x32 .f32 := broadcastInDim S1x32 ![] bcast_S_S1x32 main_cst_9
  let main_v27 : IVec S1x32 1 := cmpf .olt main_v25 main_v26
  let main_c_10 : IVec S_ 1 := constantI S_ 1 1#1
  let main_v28 : IVec S_ 1 := (fun x v => Host.reduce IntOp.andi x v reducesTo_S1x32_S_d0_1 h_S_) main_v27 main_c_10
  let main_v29 : IVec S_ 1 := andi main_v24 main_v28
  let main_v30 : FVec F S1 .f32 := Host.absf main_arg7
  let main_cst_11 : FVec F S_ .f32 := constant S_ .f32 0x7F800000#32
  let main_v31 : FVec F S1 .f32 := broadcastInDim S1 ![] bcast_S_S1 main_cst_11
  let main_v32 : IVec S1 1 := cmpf .olt main_v30 main_v31
  let main_c_12 : IVec S_ 1 := constantI S_ 1 1#1
  fn_part2 (F := F) main_arg0 main_arg1 main_arg2 main_arg3 main_arg4 main_arg5 main_arg6 main_arg7 main_v29 main_v32 main_c_12

def fn {F : FTy → Type} [FloatOps F] (main_arg0 : FVec F S16x4096x128 .f32) (main_arg1 : IVec S16 32) (main_arg2 : FVec F S512x128 .f32) (main_arg3 : FVec F S512 .f32) (main_arg4 : FVec F S32x512 .f32) (main_arg5 : FVec F S32 .f32) (main_arg6 : FVec F S1x32 .f32) (main_arg7 : FVec F S1 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_c_0 : IVec S_ 1 := constantI S_ 1 1#1
  let main_v4 : IVec S_ 1 := andi main_c_0 main_v3
  let main_v5 : FVec F S512x128 .f32 := Host.absf main_arg2
  let main_cst_1 : FVec F S_ .f32 := constant S_ .f32 0x7F800000#32
  let main_v6 : FVec F S512x128 .f32 := broadcastInDim S512x128 ![] bcast_S_S512x128 main_cst_1
  let main_v7 : IVec S512x128 1 := cmpf .olt main_v5 main_v6
  let main_c_2 : IVec S_ 1 := constantI S_ 1 1#1
  let main_v8 : IVec S_ 1 := (fun x v => Host.reduce IntOp.andi x v reducesTo_S512x128_S_d0_1 h_S_) main_v7 main_c_2
  let main_v9 : IVec S_ 1 := andi main_v4 main_v8
  let main_v10 : FVec F S512 .f32 := Host.absf main_arg3
  let main_cst_3 : FVec F S_ .f32 := constant S_ .f32 0x7F800000#32
  let main_v11 : FVec F S512 .f32 := broadcastInDim S512 ![] bcast_S_S512 main_cst_3
  let main_v12 : IVec S512 1 := cmpf .olt main_v10 main_v11
  let main_c_4 : IVec S_ 1 := constantI S_ 1 1#1
  let main_v13 : IVec S_ 1 := (fun x v => Host.reduce IntOp.andi x v reducesTo_S512_S_d0 h_S_) main_v12 main_c_4
  let main_v14 : IVec S_ 1 := andi main_v9 main_v13
  let main_v15 : FVec F S32x512 .f32 := Host.absf main_arg4
  let main_cst_5 : FVec F S_ .f32 := constant S_ .f32 0x7F800000#32
  fn_part1 (F := F) main_arg0 main_arg1 main_arg2 main_arg3 main_arg4 main_arg5 main_arg6 main_arg7 main_v14 main_v15 main_cst_5
-- ==== Kernel.lean ====
abbrev S16x4096x128 : Shape := ⟨3, ![16, 4096, 128]⟩
abbrev S16 : Shape := ⟨1, ![16]⟩
abbrev S512x128 : Shape := ⟨2, ![512, 128]⟩
abbrev S512 : Shape := ⟨1, ![512]⟩
abbrev S32x512 : Shape := ⟨2, ![32, 512]⟩
abbrev S32 : Shape := ⟨1, ![32]⟩
abbrev S1x32 : Shape := ⟨2, ![1, 32]⟩
abbrev S1 : Shape := ⟨1, ![1]⟩
abbrev S1x512 : Shape := ⟨2, ![1, 512]⟩
abbrev S1x1 : Shape := ⟨2, ![1, 1]⟩
abbrev S65536 : Shape := ⟨1, ![65536]⟩
abbrev S1x4096x128 : Shape := ⟨3, ![1, 4096, 128]⟩
abbrev S4096 : Shape := ⟨1, ![4096]⟩
abbrev S4096x128 : Shape := ⟨2, ![4096, 128]⟩
abbrev S4096x512 : Shape := ⟨2, ![4096, 512]⟩
abbrev S1x4096 : Shape := ⟨2, ![1, 4096]⟩
abbrev S16x16 : Shape := ⟨2, ![16, 16]⟩
abbrev S_ : Shape := ⟨0, ![]⟩
abbrev S1x16 : Shape := ⟨2, ![1, 16]⟩
abbrev S16x1 : Shape := ⟨2, ![16, 1]⟩

abbrev nBuf : Table → Nat
  | .hbm => 15
  | .local .tc .vmem => 10
  | .local .scVector .vmem => 5
  | _ => 0

abbrev bufTy : (tb : Table) → Fin (nBuf tb) → BufTy
  | .hbm, ⟨0, _⟩ => ⟨S16x4096x128, .f32⟩
  | .hbm, ⟨1, _⟩ => ⟨S16, .i32⟩
  | .hbm, ⟨2, _⟩ => ⟨S512x128, .f32⟩
  | .hbm, ⟨3, _⟩ => ⟨S512, .f32⟩
  | .hbm, ⟨4, _⟩ => ⟨S32x512, .f32⟩
  | .hbm, ⟨5, _⟩ => ⟨S32, .f32⟩
  | .hbm, ⟨6, _⟩ => ⟨S1x32, .f32⟩
  | .hbm, ⟨7, _⟩ => ⟨S1, .f32⟩
  | .hbm, ⟨8, _⟩ => ⟨S1x512, .f32⟩
  | .hbm, ⟨9, _⟩ => ⟨S1x32, .f32⟩
  | .hbm, ⟨10, _⟩ => ⟨S1x1, .f32⟩
  | .hbm, ⟨11, _⟩ => ⟨S65536, .f32⟩
  | .hbm, ⟨12, _⟩ => ⟨S16x16, .f32⟩
  | .hbm, ⟨13, _⟩ => ⟨S16x1, .f32⟩
  | .hbm, ⟨14, _⟩ => ⟨S16, .f32⟩
  | .local .tc .vmem, ⟨0, _⟩ => ⟨S1x4096x128, .f32⟩
  | .local .tc .vmem, ⟨1, _⟩ => ⟨S1x4096x128, .f32⟩
  | .local .tc .vmem, ⟨2, _⟩ => ⟨S512x128, .f32⟩
  | .local .tc .vmem, ⟨3, _⟩ => ⟨S1x512, .f32⟩
  | .local .tc .vmem, ⟨4, _⟩ => ⟨S32x512, .f32⟩
  | .local .tc .vmem, ⟨5, _⟩ => ⟨S1x32, .f32⟩
  | .local .tc .vmem, ⟨6, _⟩ => ⟨S1x32, .f32⟩
  | .local .tc .vmem, ⟨7, _⟩ => ⟨S1x1, .f32⟩
  | .local .tc .vmem, ⟨8, _⟩ => ⟨S4096, .f32⟩
  | .local .tc .vmem, ⟨9, _⟩ => ⟨S4096, .f32⟩
  | .local .scVector .vmem, ⟨0, _⟩ => ⟨S4096, .f32⟩
  | .local .scVector .vmem, ⟨1, _⟩ => ⟨S16, .i32⟩
  | .local .scVector .vmem, ⟨2, _⟩ => ⟨S16, .f32⟩
  | .local .scVector .vmem, ⟨3, _⟩ => ⟨S32, .f32⟩
  | .local .scVector .vmem, ⟨4, _⟩ => ⟨S32, .i32⟩
  | _, _ => ⟨S16x4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v3_scv : Ref sig .scVector := ⟨.hbm, 11, rfl⟩
abbrev main_arg1_scv : Ref sig .scVector := ⟨.hbm, 1, rfl⟩
abbrev main_v4_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v5 : BitVec 32 := Scalar.muli v1 c4096_i32
  ![v5.toNat]
@[reducible] def k1_t1_loop : Scf.Loop 32 :=
  let c0_i32_11 : BitVec 32 := 0#32
  let c16_i32_12 : BitVec 32 := 16#32
  let v55 : BitVec 32 := Scalar.addi c0_i32_11 c16_i32_12
  let c1_i32_13 : BitVec 32 := 1#32
  ⟨c0_i32_11, v55, c1_i32_13⟩
def k1_off2 (k1_t1 : Fin k1_t1_loop.trips) (c0_i32_49 : BitVec 32) : Fin 1 → Nat :=
  let c0_i32_11 : BitVec 32 := 0#32
  let c1_i32_13 : BitVec 32 := 1#32
  let arg11 : BitVec 32 := Scf.iv c0_i32_11 c1_i32_13 k1_t1
  let c256_i32 : BitVec 32 := 256#32
  let v146 : BitVec 32 := Scalar.muli arg11 c256_i32
  let v150 : BitVec 32 := Scalar.addi v146 c0_i32_49
  let v151 : Index := Scalar.indexCast v150
  ![v151.toNat]
@[reducible] def k1_t2_loop : Scf.Loop 32 :=
  let c0_i32_16 : BitVec 32 := 0#32
  let c31_i32 : BitVec 32 := 31#32
  let v59 : BitVec 32 := Scalar.addi c0_i32_16 c31_i32
  let c1_i32_17 : BitVec 32 := 1#32
  ⟨c0_i32_16, v59, c1_i32_17⟩
@[reducible] def k1_t3_loop : Scf.Loop 32 :=
  let c0_i32_49 : BitVec 32 := 0#32
  let c16_i32_50 : BitVec 32 := 16#32
  let v150 : BitVec 32 := Scalar.addi c0_i32_49 c16_i32_50
  let c1_i32_51 : BitVec 32 := 1#32
  ⟨c0_i32_49, v150, c1_i32_51⟩
def k1_off3 (k1_t3 : Fin k1_t3_loop.trips) (c0_i32_65 : BitVec 32) : Fin 1 → Nat :=
  let c0_i32_49 : BitVec 32 := 0#32
  let c1_i32_51 : BitVec 32 := 1#32
  let arg14 : BitVec 32 := Scf.iv c0_i32_49 c1_i32_51 k1_t3
  let c256_i32 : BitVec 32 := 256#32
  let v194 : BitVec 32 := Scalar.muli arg14 c256_i32
  let v195 : BitVec 32 := Scalar.addi v194 c0_i32_65
  let v196 : Index := Scalar.indexCast v195
  ![v196.toNat]
@[reducible] def k1_t4_loop : Scf.Loop 32 :=
  let c0_i32_19 : BitVec 32 := 0#32
  let c16_i32_20 : BitVec 32 := 16#32
  let v63 : BitVec 32 := Scalar.addi c0_i32_19 c16_i32_20
  let c1_i32_21 : BitVec 32 := 1#32
  ⟨c0_i32_19, v63, c1_i32_21⟩
def k1_off4 (k1_t4 : Fin k1_t4_loop.trips) (c0_i32_48 : BitVec 32) : Fin 1 → Nat :=
  let c0_i32_19 : BitVec 32 := 0#32
  let c1_i32_21 : BitVec 32 := 1#32
  let arg11 : BitVec 32 := Scf.iv c0_i32_19 c1_i32_21 k1_t4
  let c256_i32 : BitVec 32 := 256#32
  let v146 : BitVec 32 := Scalar.muli arg11 c256_i32
  let v147 : BitVec 32 := Scalar.addi v146 c0_i32_48
  let v148 : Index := Scalar.indexCast v147
  ![v148.toNat]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_48_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x128 : Shape := ⟨3, ![16, 4096, 128]⟩
abbrev S16 : Shape := ⟨1, ![16]⟩
abbrev S512x128 : Shape := ⟨2, ![512, 128]⟩
abbrev S512 : Shape := ⟨1, ![512]⟩
abbrev S32x512 : Shape := ⟨2, ![32, 512]⟩
abbrev S32 : Shape := ⟨1, ![32]⟩
abbrev S1x32 : Shape := ⟨2, ![1, 32]⟩
abbrev S1 : Shape := ⟨1, ![1]⟩
abbrev S128x512 : Shape := ⟨2, ![128, 512]⟩
abbrev S16x4096x512 : Shape := ⟨3, ![16, 4096, 512]⟩
abbrev S1x1x512 : Shape := ⟨3, ![1, 1, 512]⟩
abbrev S_ : Shape := ⟨0, ![]⟩
abbrev S512x32 : Shape := ⟨2, ![512, 32]⟩
abbrev S16x4096x32 : Shape := ⟨3, ![16, 4096, 32]⟩
abbrev S1x1x32 : Shape := ⟨3, ![1, 1, 32]⟩
abbrev S32x1 : Shape := ⟨2, ![32, 1]⟩
abbrev S16x4096x1 : Shape := ⟨3, ![16, 4096, 1]⟩
abbrev S1x1x1 : Shape := ⟨3, ![1, 1, 1]⟩
abbrev S16x4096 : Shape := ⟨2, ![16, 4096]⟩
abbrev S4096 : Shape := ⟨1, ![4096]⟩
abbrev S1x4096 : Shape := ⟨2, ![1, 4096]⟩
abbrev S16x1 : Shape := ⟨2, ![16, 1]⟩
abbrev S16x1x1 : Shape := ⟨3, ![16, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16, .i32⟩
  | .hbm, ⟨2, _⟩ => ⟨S512x128, .f32⟩
  | .hbm, ⟨3, _⟩ => ⟨S512, .f32⟩
  | .hbm, ⟨4, _⟩ => ⟨S32x512, .f32⟩
  | .hbm, ⟨5, _⟩ => ⟨S32, .f32⟩
  | .hbm, ⟨6, _⟩ => ⟨S1x32, .f32⟩
  | .hbm, ⟨7, _⟩ => ⟨S1, .f32⟩
  | .hbm, ⟨8, _⟩ => ⟨S128x512, .f32⟩
  | .hbm, ⟨9, _⟩ => ⟨S16x4096x512, .f32⟩
  | .hbm, ⟨10, _⟩ => ⟨S1x1x512, .f32⟩
  | .hbm, ⟨11, _⟩ => ⟨S16x4096x512, .f32⟩
  | .hbm, ⟨12, _⟩ => ⟨S16x4096x512, .f32⟩
  | .hbm, ⟨13, _⟩ => ⟨S_, .f32⟩
  | .hbm, ⟨14, _⟩ => ⟨S16x4096x512, .f32⟩
  | .hbm, ⟨15, _⟩ => ⟨S16x4096x512, .f32⟩
  | .hbm, ⟨16, _⟩ => ⟨S512x32, .f32⟩
  | .hbm, ⟨17, _⟩ => ⟨S16x4096x32, .f32⟩
  | .hbm, ⟨18, _⟩ => ⟨S1x1x32, .f32⟩
  | .hbm, ⟨19, _⟩ => ⟨S16x4096x32, .f32⟩
  | .hbm, ⟨20, _⟩ => ⟨S16x4096x32, .f32⟩
  | .hbm, ⟨21, _⟩ => ⟨S32x1, .f32⟩
  | .hbm, ⟨22, _⟩ => ⟨S16x4096x1, .f32⟩
  | .hbm, ⟨23, _⟩ => ⟨S1x1x1, .f32⟩
  | .hbm, ⟨24, _⟩ => ⟨S16x4096x1, .f32⟩
  | .hbm, ⟨25, _⟩ => ⟨S16x4096x1, .f32⟩
  | .hbm, ⟨26, _⟩ => ⟨S16x4096x1, .f32⟩
  | .hbm, ⟨27, _⟩ => ⟨S16x4096x1, .f32⟩
  | .hbm, ⟨28, _⟩ => ⟨S_, .f32⟩
  | .hbm, ⟨29, _⟩ => ⟨S16x4096x1, .f32⟩
  | .hbm, ⟨30, _⟩ => ⟨S16x4096x1, .f32⟩
  | .hbm, ⟨31, _⟩ => ⟨S_, .f32⟩
  | .hbm, ⟨32, _⟩ => ⟨S16x4096x1, .f32⟩
  | .hbm, ⟨33, _⟩ => ⟨S16x4096x1, .f32⟩
  | .hbm, ⟨34, _⟩ => ⟨S16x4096, .f32⟩
  | .hbm, ⟨35, _⟩ => ⟨S4096, .i32⟩
  | .hbm, ⟨36, _⟩ => ⟨S1x4096, .i32⟩
  | .hbm, ⟨37, _⟩ => ⟨S16x1, .i32⟩
  | .hbm, ⟨38, _⟩ => ⟨S16x4096, .i32⟩
  | .hbm, ⟨39, _⟩ => ⟨S16x4096, .i32⟩
  | .hbm, ⟨40, _⟩ => ⟨S16x4096, .i1⟩
  | .hbm, ⟨41, _⟩ => ⟨S_, .f32⟩
  | .hbm, ⟨42, _⟩ => ⟨S_, .f32⟩
  | .hbm, ⟨43, _⟩ => ⟨S16x4096, .f32⟩
  | .hbm, ⟨44, _⟩ => ⟨S16x4096, .f32⟩
  | .hbm, ⟨45, _⟩ => ⟨S16x4096, .f32⟩
  | .hbm, ⟨46, _⟩ => ⟨S16x4096, .f32⟩
  | .hbm, ⟨47, _⟩ => ⟨S16x4096, .f32⟩
  | .hbm, ⟨48, _⟩ => ⟨S16x4096, .f32⟩
  | .hbm, ⟨49, _⟩ => ⟨S_, .f32⟩
  | .hbm, ⟨50, _⟩ => ⟨S16x4096, .f32⟩
  | .hbm, ⟨51, _⟩ => ⟨S16x4096, .i1⟩
  | .hbm, ⟨52, _⟩ => ⟨S_, .f32⟩
  | .hbm, ⟨53, _⟩ => ⟨S_, .f32⟩
  | .hbm, ⟨54, _⟩ => ⟨S16x4096, .f32⟩
  | .hbm, ⟨55, _⟩ => ⟨S16x4096, .f32⟩
  | .hbm, ⟨56, _⟩ => ⟨S_, .f32⟩
  | .hbm, ⟨57, _⟩ => ⟨S_, .f32⟩
  | .hbm, ⟨58, _⟩ => ⟨S16x4096, .f32⟩
  | .hbm, ⟨59, _⟩ => ⟨S_, .i32⟩
  | .hbm, ⟨60, _⟩ => ⟨S_, .i32⟩
  | .hbm, ⟨61, _⟩ => ⟨S16, .i32⟩
  | .hbm, ⟨62, _⟩ => ⟨S16, .i32⟩
  | .hbm, ⟨63, _⟩ => ⟨S16, .i32⟩
  | .hbm, ⟨64, _⟩ => ⟨S_, .i32⟩
  | .hbm, ⟨65, _⟩ => ⟨S16, .i32⟩
  | .hbm, ⟨66, _⟩ => ⟨S16, .i1⟩
  | .hbm, ⟨67, _⟩ => ⟨S16, .i32⟩
  | .hbm, ⟨68, _⟩ => ⟨S16, .i32⟩
  | .hbm, ⟨69, _⟩ => ⟨S_, .i32⟩
  | .hbm, ⟨70, _⟩ => ⟨S16, .i32⟩
  | .hbm, ⟨71, _⟩ => ⟨S16, .i1⟩
  | .hbm, ⟨72, _⟩ => ⟨S16, .i1⟩
  | .hbm, ⟨73, _⟩ => ⟨S_, .i32⟩
  | .hbm, ⟨74, _⟩ => ⟨S16, .i32⟩
  | .hbm, ⟨75, _⟩ => ⟨S16, .i32⟩
  | .hbm, ⟨76, _⟩ => ⟨S16, .i32⟩
  | .hbm, ⟨77, _⟩ => ⟨S_, .i32⟩
  | .hbm, ⟨78, _⟩ => ⟨S16, .i32⟩
  | .hbm, ⟨79, _⟩ => ⟨S16, .i32⟩
  | .hbm, ⟨80, _⟩ => ⟨S_, .i32⟩
  | .hbm, ⟨81, _⟩ => ⟨S16, .i32⟩
  | .hbm, ⟨82, _⟩ => ⟨S16, .i32⟩
  | .hbm, ⟨83, _⟩ => ⟨S16x1, .i32⟩
  | .hbm, ⟨84, _⟩ => ⟨S_, .i32⟩
  | .hbm, ⟨85, _⟩ => ⟨S16x1, .i32⟩
  | .hbm, ⟨86, _⟩ => ⟨S16x1, .i1⟩
  | .hbm, ⟨87, _⟩ => ⟨S_, .i32⟩
  | .hbm, ⟨88, _⟩ => ⟨S16x1, .i32⟩
  | .hbm, ⟨89, _⟩ => ⟨S16x1, .i32⟩
  | .hbm, ⟨90, _⟩ => ⟨S16x1, .i32⟩
  | .hbm, ⟨91, _⟩ => ⟨S16x1x1, .i32⟩
  | .hbm, ⟨92, _⟩ => ⟨S1, .i32⟩
  | .hbm, ⟨93, _⟩ => ⟨S_, .i32⟩
  | .hbm, ⟨94, _⟩ => ⟨S16x1x1, .i32⟩
  | .hbm, ⟨95, _⟩ => ⟨S16x1x1, .i1⟩
  | .hbm, ⟨96, _⟩ => ⟨S1x1x1, .i32⟩
  | .hbm, ⟨97, _⟩ => ⟨S16x1x1, .i32⟩
  | .hbm, ⟨98, _⟩ => ⟨S16x1x1, .i1⟩
  | .hbm, ⟨99, _⟩ => ⟨S16x1x1, .i1⟩
  | .hbm, ⟨100, _⟩ => ⟨S_, .i1⟩
  | .hbm, ⟨101, _⟩ => ⟨S16x1, .i1⟩
  | .hbm, ⟨102, _⟩ => ⟨S16x1, .f32⟩
  | .hbm, ⟨103, _⟩ => ⟨S_, .f32⟩
  | .hbm, ⟨104, _⟩ => ⟨S16x1, .f32⟩
  | .hbm, ⟨105, _⟩ => ⟨S16x1, .f32⟩
  | .hbm, ⟨106, _⟩ => ⟨S16, .f32⟩
  | .hbm, ⟨107, _⟩ => ⟨S16, .f32⟩
  | .hbm, ⟨108, _⟩ => ⟨S16, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_call2_v0 : Ref sig .tc := ⟨.hbm, 53, rfl⟩
abbrev main_call2_v1 : Ref sig .tc := ⟨.hbm, 54, rfl⟩
abbrev main_v37 : Ref sig .tc := ⟨.hbm, 55, rfl⟩
abbrev main_call3_call0_cst : Ref sig .tc := ⟨.hbm, 56, rfl⟩
abbrev main_call3_call0_v0 : Ref sig .tc := ⟨.hbm, 57, rfl⟩
abbrev main_v38 : Ref sig .tc := ⟨.hbm, 58, rfl⟩
abbrev main_c : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_v6 : Ref sig .tc := ⟨.hbm, 66, rfl⟩
abbrev main_call4_v7 : Ref sig .tc := ⟨.hbm, 67, rfl⟩
abbrev main_call4_v8 : Ref sig .tc := ⟨.hbm, 68, rfl⟩
abbrev main_call4_c : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_c_0 : Ref sig .tc := ⟨.hbm, 73, rfl⟩
abbrev main_call4_v12 : Ref sig .tc := ⟨.hbm, 74, rfl⟩
abbrev main_call4_v13 : Ref sig .tc := ⟨.hbm, 75, rfl⟩
abbrev main_v39 : Ref sig .tc := ⟨.hbm, 76, rfl⟩
abbrev main_c_5 : Ref sig .tc := ⟨.hbm, 77, rfl⟩
abbrev main_v40 : Ref sig .tc := ⟨.hbm, 78, rfl⟩
abbrev main_v41 : Ref sig .tc := ⟨.hbm, 79, rfl⟩
abbrev main_c_6 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_call5_c : Ref sig .tc := ⟨.hbm, 84, rfl⟩
abbrev main_call5_v0 : Ref sig .tc := ⟨.hbm, 85, rfl⟩
abbrev main_call5_v1 : Ref sig .tc := ⟨.hbm, 86, rfl⟩
abbrev main_call5_c_0 : Ref sig .tc := ⟨.hbm, 87, rfl⟩
abbrev main_call5_v2 : Ref sig .tc := ⟨.hbm, 88, rfl⟩
abbrev main_call5_v3 : Ref sig .tc := ⟨.hbm, 89, rfl⟩
abbrev main_call5_v4 : Ref sig .tc := ⟨.hbm, 90, rfl⟩
abbrev main_call5_v5 : Ref sig .tc := ⟨.hbm, 91, rfl⟩
abbrev main_call5_c_1 : Ref sig .tc := ⟨.hbm, 92, rfl⟩
abbrev main_call5_c_2 : Ref sig .tc := ⟨.hbm, 93, rfl⟩
abbrev main_call5_v6 : Ref sig .tc := ⟨.hbm, 94, rfl⟩
abbrev main_call5_v7 : Ref sig .tc := ⟨.hbm, 95, rfl⟩
abbrev main_call5_v8 : Ref sig .tc := ⟨.hbm, 96, rfl⟩
abbrev main_call5_v9 : Ref sig .tc := ⟨.hbm, 97, rfl⟩
abbrev main_call5_v10 : Ref sig .tc := ⟨.hbm, 98, rfl⟩
abbrev main_call5_v11 : Ref sig .tc := ⟨.hbm, 99, rfl⟩
abbrev main_call5_c_3 : Ref sig .tc := ⟨.hbm, 100, rfl⟩
abbrev main_call5_v12 : Ref sig .tc := ⟨.hbm, 101, rfl⟩
abbrev main_call5_v13 : Ref sig .tc := ⟨.hbm, 102, rfl⟩
abbrev main_call5_cst : Ref sig .tc := ⟨.hbm, 103, rfl⟩
abbrev main_call5_v14 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩

abbrev nD : Nat := 1
abbrev τ : Topo := Topo.v7x

variable {F : FTy → Type} [FloatOps F]
-- ==== Proof.KernelIdeal.Base.lean ====
/-
  What every module about the idealized kernel's run shares: the program's SparseCore configuration, the ghost
  algebra (the handshakes' rounds, the pipeline's rounds, the transfers' counters), and the locations and memrefs
  of the SparseCore call `cc1__sc_topk_kernel`.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch configuration meets its side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

abbrev M : Type := MT nD τ sig (HIx 1) (Elt F) ℕ UU ℕ

abbrev EH : Emb UH (MT nD τ sig (HIx 1) (Elt F) ℕ UU ℕ) := embL

/-! ## The SparseCore call's arrays -/

variable (d : Dev nD)

/-- The logits (the TensorCore call's result), the lengths (an argument), the SparseCore call's result: as locations of device `d`. -/
abbrev gLoc : Loc nD τ sig := (SparseCore.T d).loc main_v3
abbrev nLoc : Loc nD τ sig := (SparseCore.T d).loc main_arg1
abbrev oLoc : Loc nD τ sig := (SparseCore.T d).loc main_v4

abbrev cV (L : grid1.Coords) : Fin τ.nSC := (L 0).castLE hcore1
abbrev jV (L : grid1.Coords) : Fin τ.nSub := (L 1).castLE hsub1
/-- The tile that runs the task at grid coordinates `L`. -/
abbrev tV (L : grid1.Coords) : Thread nD τ := V d (cV L) (jV L)

end Cert.Proof.KernelIdeal

end
-- ==== Proof.KernelIdeal.Tc.lean ====
/-
  The TensorCore call's region (`cc0__mlp_kernel`, pipeline 0), with its values: each window's block at a grid point, what
  the body leaves in the result's block, the pipeline's proof data over the handshakes' debts, the body's obligation, and
  the region itself as a step of @main (`reg0`): from every unscoped buffer at the contents `W`, to the same with the
  result array at what the pipeline writes back.
-/
module

public import proofs.«01_k».proof.Proof.KernelIdeal.Base
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The region's invariant: the scoped buffers no window stages and the generator register, untouched. -/
def ΦT (c : Dev nD) : sProp 𝕄 := iprop(Pipeline.scopedRest spec0 c ∗ ∃ r, prngReg c r)

variable (V : (c : Dev nD) → (b : Ref sig .tc) → Buf (Elt F) ((c : Thread nD τ).loc b))

/-! # REGION 0 of @main: custom_call 0, `cc0__mlp_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not, when the data's array is `V`'s and the body leaves the block in place. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not, when the data's array is `V`'s and the body leaves the block in place. -/
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not, when the data's array is `V`'s and the body leaves the block in place. -/
theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not, when the data's array is `V`'s and the body leaves the block in place. -/
theorem before0_3_of {c : Dev nD} (dat : Dat τ (Elt F) (HIx 1) ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not, when the data's array is `V`'s and the body leaves the block in place. -/
theorem before0_4_of {c : Dev nD} (dat : Dat τ (Elt F) (HIx 1) ℕ UU ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not, when the data's array is `V`'s and the body leaves the block in place. -/
theorem before0_5_of {c : Dev nD} (dat : Dat τ (Elt F) (HIx 1) ℕ UU ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not, when the data's array is `V`'s and the body leaves the block in place. -/
theorem before0_6_of {c : Dev nD} (dat : Dat τ (Elt F) (HIx 1) ℕ UU ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x32 := Rect.unit (s := S1x32) ![0, 0] S1x32.size inb_S1x32_S1x32_0_0
abbrev r0_1 : Rect S32x512 := Rect.unit (s := S32x512) ![0, 0] S32x512.size inb_S32x512_S32x512_0_0
abbrev r0_2 : Rect S1x1 := Rect.unit (s := S1x1) ![0, 0] S1x1.size inb_S1x1_S1x1_0_0
abbrev r0_3 : Rect S1x4096x128 := Rect.unit (s := S1x4096x128) ![0, 0, 0] S1x4096x128.size inb_S1x4096x128_S1x4096x128_0_0_0
abbrev r0_4 : Rect S512x128 := Rect.unit (s := S512x128) ![0, 0] S512x128.size inb_S512x128_S512x128_0_0
abbrev r0_5 : Rect S1x512 := Rect.unit (s := S1x512) ![0, 0] S1x512.size inb_S1x512_S1x512_0_0
abbrev r0_6 : Rect S4096 := Rect.unit (s := S4096) ![0] S4096.size inb_S4096_S4096_0

/-! ## What the body leaves in each output window's buffer -/

/-- Window 7's staging buffer after the body, from the input windows' blocks: its 1 store as pieces, LAST
    FIRST (Lib/Pipeline/FrameBody.lean `View.canon`; the payloads are the skeleton's). -/
def out0_7 (x0 : Vec F S1x4096x128 .f32) (x1 : Vec F S512x128 .f32) (x2 : Vec F S1x512 .f32) (x3 : Vec F S32x512 .f32) (x4 : Vec F S1x32 .f32) (x5 : Vec F S1x32 .f32) (x6 : Vec F S1x1 .f32) : Vec F S4096 .f32 :=
  View.canon [⟨r0_6, k0_pay1 (View.ld x5 r0_0) (View.ld x3 r0_1) (View.ld x5 r0_0) (View.ld x4 r0_0) (View.ld x6 r0_2) (View.ld x0 r0_3) (View.ld x1 r0_4) (View.ld x2 r0_5)⟩]

/-- Its stores tile the buffer (checked by evaluation), so they cover it. -/
theorem cover0_7 (p0 : Vec F S4096 .f32) (y : S4096.Idx) :
    ∃ pc ∈ ([⟨r0_6, p0⟩] : List (View.Piece (Elt F) S4096 .f32)), y ∈ pc.1.set :=
  View.cover_of_tiled [⟨r0_6, p0⟩] S4096.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x4096x128 .f32) (harg1 : arg1.IsWhole) (arg2 : Memref sig .tc .vmem S512x128 .f32) (harg2 : arg2.IsWhole) (arg3 : Memref sig .tc .vmem S1x512 .f32) (harg3 : arg3.IsWhole) (arg4 : Memref sig .tc .vmem S32x512 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S4096 .f32) (harg8 : arg8.IsWhole)
    (x0 : Vec F S1x4096x128 .f32) (x1 : Vec F S512x128 .f32) (x2 : Vec F S1x512 .f32) (x3 : Vec F S32x512 .f32) (x4 : Vec F S1x32 .f32) (x5 : Vec F S1x32 .f32) (x6 : Vec F S1x1 .f32) (Kk : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ Kk ⟨⟩))
      ⊢ wp frame (wpE (defs₀ (F := F)) Variants.none c none) E (cc0__mlp_kernel i arg1 harg1 arg2 harg2 arg3 harg3 arg4 harg4 arg5 harg5 arg6 harg6 arg7 harg7 arg8 harg8) Kk := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := ΦT (F := F) c
  q _ := fullShare
  owed _ := (K (F := F)).Otc c 0
  recorded _ := {p | (K (F := F)).lev (SparseCore.T c, p.1) p.2 ≤ 0}

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- Window 1's buffer after the body. -/
theorem after0_1 (c : Dev nD) (t : Fin cfg0.N) : (dat0 V c).after 1 t = iblk0 V c 1 t := by dsimp only [dat0]
/-- Window 2's. -/
theorem after0_2 (c : Dev nD) (t : Fin cfg0.N) : (dat0 V c).after 2 t = iblk0 V c 2 t := by dsimp only [dat0]
/-- Window 3's. -/
theorem after0_3 (c : Dev nD) (t : Fin cfg0.N) : (dat0 V c).after 3 t = iblk0 V c 3 t := by dsimp only [dat0]
/-- Window 4's. -/
theorem after0_4 (c : Dev nD) (t : Fin cfg0.N) : (dat0 V c).after 4 t = iblk0 V c 4 t := by dsimp only [dat0]
/-- Window 5's. -/
theorem after0_5 (c : Dev nD) (t : Fin cfg0.N) : (dat0 V c).after 5 t = iblk0 V c 5 t := by dsimp only [dat0]
/-- Window 6's. -/
theorem after0_6 (c : Dev nD) (t : Fin cfg0.N) : (dat0 V c).after 6 t = iblk0 V c 6 t := by dsimp only [dat0]
/-- The result window's: the body's payload of the seven blocks. -/
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- Window 1's buffer before the body. -/
theorem before0_1 (c : Dev nD) (t : Fin cfg0.N) (d) : (dat0 V c).before 1 t d = iblk0 V c 1 t :=
  before0_1_of V (dat0 V c) (A_eq0 V c 1) (after0_1 V c) t d
/-- Window 2's. -/
theorem before0_2 (c : Dev nD) (t : Fin cfg0.N) (d) : (dat0 V c).before 2 t d = iblk0 V c 2 t :=
  before0_2_of V (dat0 V c) (A_eq0 V c 2) (after0_2 V c) t d
/-- Window 3's. -/
theorem before0_3 (c : Dev nD) (t : Fin cfg0.N) (d) : (dat0 V c).before 3 t d = iblk0 V c 3 t :=
  before0_3_of V (dat0 V c) (A_eq0 V c 3) (after0_3 V c) t d
/-- Window 4's. -/
theorem before0_4 (c : Dev nD) (t : Fin cfg0.N) (d) : (dat0 V c).before 4 t d = iblk0 V c 4 t :=
  before0_4_of V (dat0 V c) (A_eq0 V c 4) (after0_4 V c) t d
/-- Window 5's. -/
theorem before0_5 (c : Dev nD) (t : Fin cfg0.N) (d) : (dat0 V c).before 5 t d = iblk0 V c 5 t :=
  before0_5_of V (dat0 V c) (A_eq0 V c 5) (after0_5 V c) t d
/-- Window 6's. -/
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt none t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt none t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt none t.succ = (dat0 V c).owesAt none t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  rfl

/-- The library's body obligation, at every point: the body's triple restated (Lib/Pipeline/FrameBody.lean `triple_restated`). -/
theorem body_obligation0 (c : Dev nD) : BodyObligation (dat0 (F := F) V c) (defs₀ (F := F)) Variants.none none Set.univ := fun t => by
  rw [bigSep_W0, bigSep_W0, defs₀_row0]
  exact triple_restated (sound_body0 V c t) rfl .rfl fun _ => .rfl

/-! # The region as a step of @main -/

/-- The prefetched tables' admissible contents: the pipeline has no table. -/
abbrev adm : (p : Fin 1) → (pcfgs (F := F) p).Adm := fun p => (cfgs p).toPCfg_adm

variable (W : Dev nD → Valuation τ sig (Elt F))

/-- A valuation of the device's buffers read at the TensorCore's references. -/
abbrev VW : (c : Dev nD) → (b : Ref sig .tc) → Buf (Elt F) ((c : Thread nD τ).loc b) := fun c b => W c b

/-- The pipeline's proof data at the contents the region is entered with. -/
def pdats : (p : Fin 1) → (c : Dev nD) → Dat τ (Elt F) (HIx 1) ℕ UU ℕ (Pipeline.pin (pcfgs (F := F)) adm p) c
  | ⟨0, _⟩ => fun c => dat0 (VW W) c

/-- The buffers at the region's exit: its arrays at what the pipeline leaves, every other buffer as entered. -/
def W' (c : Dev nD) : Valuation τ sig (Elt F) :=
  Pipeline.withArrays spec0 c (W c) fun w => (dat0 (VW W) c).arrAt w cfg0.N
/-- The region's arrays at its exit. -/
theorem W'_arr (c : Dev nD) (w : Fin cfg0.W) :
    W' W c (Proc.devRef .tc (Pipeline.arrRef spec0 w)) = (dat0 (VW W) c).arrAt w cfg0.N := by
  unfold W'; exact Pipeline.withArrays_arr spec0 launch0.win.arr_inj c _ _ w
/-- Every other buffer at its exit. -/
theorem W'_of_ne (c : Dev nD) (b : Ref sig .tc) (hb : ∀ w, Pipeline.arrRef spec0 w ≠ b) :
    W' W c (Proc.devRef .tc b) = W c (Proc.devRef .tc b) := by
  unfold W'; exact Pipeline.withArrays_of_ne spec0 c _ _ b hb
/-- A reference that is none of the region's output arrays keeps its entry contents across it. -/
theorem W'_of (c : Dev nD) (r : Ref sig .tc) (h : ∀ w : Fin cfg0.W, Pipeline.arrRef spec0 w = r → (cfg0.win w).isOut = false) :
    W' W c (Proc.devRef .tc r) = W c (Proc.devRef .tc r) := by
  by_cases hw : ∃ w : Fin cfg0.W, Pipeline.arrRef spec0 w = r
  · obtain ⟨w, rfl⟩ := hw
    exact (W'_arr W c w).trans (((dat0 (VW W) c).arrAt_in w (h w rfl) _).trans (A_eq0 (VW W) c w))
  · exact W'_of_ne W c r fun w e => hw ⟨w, e⟩
/-- What the pipeline leaves in each array is what the exit state says, -/
theorem hF0 (c : Dev nD) (w : Fin cfg0.W) : (dat0 (VW W) c).arrAt w cfg0.N = VW (W' W) c (Pipeline.arrRef spec0 w) :=
  (W'_arr W c w).symm
/-- and the other buffers are as entered. -/
theorem hrest0 (c : Dev nD) : ∀ b, b ∉ Finset.univ.image (Pipeline.arrRef spec0) → VW (W' W) c b = VW W c b :=
  fun b hb => W'_of_ne W c b fun w e => hb (Finset.mem_image.mpr ⟨w, Finset.mem_univ _, e⟩)

/-- What rides beside the buffers: the generator register at some state, and the handshakes' debts, every recorded wait at
    level zero. -/
abbrev R (c : Dev nD) : sProp 𝕄 :=
  iprop((∃ r, prngReg c r) ∗ ∃ Wd, ⌜(K (F := F)).WBelow (SparseCore.T c) Wd 0⌝ ∗ owes (c : Thread nD τ) ((K (F := F)).Otc c 0) Wd)

/-- What the TensorCore owes sits strictly above level zero. -/
theorem lev_of_Otc_pos (c : Dev nD) (g : GSem nD τ sig) (i : HIx 1) (h : 0 < (K (F := F)).Otc c 0 g i) : 0 < (K (F := F)).lev g i := by
  exact lt_of_lt_of_le (Nat.succ_pos _) (SparseCore.Cfg.lev_of_Otc_pos h)

set_option backward.isDefEq.respectTransparency.types false in
/-- The region over the thread state: entered from every unscoped buffer at `W`, left at `W'`. -/
def reg0 : Pipeline.RegionSeg (pcfgs (F := F)) adm (pdats W) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (VW W) c).loose
  hwaits c := Pipeline.cellsWaits_of_cut _ (pdats W) none 0 c 0 ((K (F := F)).Otc c 0) (fun _ => rfl) (fun _ _ => Finset.mem_univ _)
    (fun _ _ => le_of_eq rfl) (fun g i h => ⟨Finset.mem_univ _, lev_of_Otc_pos c g i h⟩)
  pre c := iprop(StableHlo.held (c : Thread nD τ) (Pipeline.ucRefs τ sig) (W c) ∗ R c)
  post c := iprop(StableHlo.held (c : Thread nD τ) (Pipeline.ucRefs τ sig) (W' W c) ∗ R c)
  X c := iprop(∃ r, prngReg c r)
  Y c := iprop(∃ r, prngReg c r)
  Z c := Pipeline.unscopedRest (Ix := HIx 1) (Name := ℕ) (U := UU) (Lvl := ℕ) spec0 c (VW W c)
  hentry c := by
    rw [Pipeline.ownSems0_none]
    have hsplit := Pipeline.arrays_of_unscopedBufs (p := 0) (pcfgs (F := F)) adm (pdats W) launch0.win launch0.arr_whole c
      ((pdats W 0 c).share_full fun _ => rfl) (VW W c) (A_eq0 (VW W) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, %hWd, HO⟩; iexists Wd; isplitr; · ipureintro; exact fun p hp => Or.inl (hWd p hp)
      iexact HO
    isplitl [Hp]; · iexact Hp
    iexact Hrest
  hin c := by
    rw [show (pdats W 0 c).Φ 0 = ΦT c from rfl]; unfold ΦT
    iintro ⟨Hp, -, Hr⟩
    isplitl [Hr]; · iexact Hr
    iexact Hp
  hout c := by
    rw [Pipeline.ownSems0_none, show (pdats W 0 c).Φ (Fin.last _) = ΦT c from rfl]; unfold ΦT
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats W) ((pdats W 0 c).share_full fun _ => rfl)
      (VW W c) (VW (W' W) c) ((pdats W 0 c).arrAt · cfg0.N) (hF0 W c) (hrest0 W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wd, %hWd, HO⟩; iexists Wd; isplitr
    · ipureintro
      intro p hp
      rcases hWd hp with h | ⟨w, s, rfl⟩
      · exact h
      · exact le_of_eq rfl
    iexact HO

end Cert.Proof.KernelIdeal

end
-- ==== Proof.KernelIdeal.Vals.lean ====
/-
  The values the SparseCore task computes, as functions of the row it fetched and of the lengths: the vector-level
  operations of `cc1__sc_topk_kernel` in their printed order, with no memory in them.
-/
module

public import proofs.«01_k».proof.Proof.KernelIdeal.Base

@[expose] public section

noncomputable section

namespace Cert.Proof.KernelIdeal

open Cert.KernelIdeal Cert.KernelIdeal.Gen
open Idealize.ShloMosaic

variable {F : FTy → Type} [FloatOps F]

/-- Lane `n mod 16` of a sixteen-lane vector. -/
def ln (n : ℕ) : S16.Idx := fun | 0 => ⟨n % 16, Nat.mod_lt _ (by decide)⟩ | ⟨_ + 1, h⟩ => absurd h (Nat.not_lt.2 (Nat.le_add_left _ _))
/-- Position `n mod 4096` of a row. -/
def px (n : ℕ) : S4096.Idx := fun | 0 => ⟨n % 4096, Nat.mod_lt _ (by decide)⟩ | ⟨_ + 1, h⟩ => absurd h (Nat.not_lt.2 (Nat.le_add_left _ _))

/-- The sixteen elements of a row from position `b` on. -/
def chunk (f : Vec F S4096 .f32) (b : ℕ) : FVec F S16 .f32 := fun x => f (px (b + (x 0).val))

/-- One step of the all-lanes sum: every lane takes the lane `s` further on, cyclically, to itself. -/
def rotStep {α : Type} (add : α → α → α) (s : ℕ) (a : S16.Idx → α) : S16.Idx → α := fun x => add (a x) (a (ln ((x 0).val + s)))
/-- The all-lanes sum of a word vector: four steps of distances 1, 2, 4, 8. -/
def rotI (a : IVec S16 32) : IVec S16 32 := rotStep IntOp.addi 8 (rotStep IntOp.addi 4 (rotStep IntOp.addi 2 (rotStep IntOp.addi 1 a)))
/-- The all-lanes sum of a float vector. -/
def rotF (a : FVec F S16 .f32) : FVec F S16 .f32 :=
  rotStep FloatOps.addf 8 (rotStep FloatOps.addf 4 (rotStep FloatOps.addf 2 (rotStep FloatOps.addf 1 a)))

abbrev one16 : IVec S16 32 := broadcast S16 1#32
abbrev zero16 : IVec S16 32 := broadcast S16 0#32

/-- Row number of the task at grid coordinates `i`, as the word the body computes. -/
abbrev wWord (i : grid1.Coords) : BitVec 32 := Scalar.addi (Scalar.muli (BitVec.ofNat 32 (i 1).val) 2#32) (BitVec.ofNat 32 (i 0).val)

abbrev lanes : IVec S16 32 := iota .scVector S16 32 [0] iota_S16_d0_w32_scVector

/-- Lane `w`'s length kept, every other lane zero. -/
def lenSel (w : BitVec 32) (n : IVec S16 32) : IVec S16 32 := select (cmpi .eq lanes (broadcast S16 w)) n zero16
/-- The row's length on every lane. -/
def lenV (w : BitVec 32) (n : IVec S16 32) : IVec S16 32 := rotI (lenSel w n)
/-- `k = (length >> 4) + 1` on every lane. -/
def kOf (Lv : IVec S16 32) : IVec S16 32 := addi (shrsi Lv (broadcast S16 4#32)) one16

/-- A chunk with the positions at or past the length set to `-1`. -/
def maskChunk (Lv : IVec S16 32) (b : BitVec 32) (v : FVec F S16 .f32) : FVec F S16 .f32 :=
  select (cmpi .slt (addi lanes (broadcast S16 b)) Lv) v (broadcast S16 (Scalar.ofBits .f32 0xBF800000#32))
/-- The row with the positions at or past the length set to `-1`, below position `n`; the rest of it untouched. -/
def maskTo (Lv : IVec S16 32) (n : ℕ) (f : Vec F S4096 .f32) : Vec F S4096 .f32 := fun y =>
  if (y 0).val < n then Scalar.select (IntOp.cmpi .slt (BitVec.ofNat 32 (y 0).val) (Lv (ln (y 0).val))) (f y) (Scalar.ofBits .f32 0xBF800000#32) else f y

/-- Per lane, 1 where the chunk at `b` is at least `t`, else 0. -/
def indGe (f : Vec F S4096 .f32) (t : FVec F S16 .f32) (b : ℕ) : IVec S16 32 := select (cmpf .oge (chunk f b) t) one16 zero16

abbrev Acc4 : Type := IVec S16 32 × IVec S16 32 × IVec S16 32 × IVec S16 32
/-- One trip of the counting loop over the four accumulators: sixteen chunks, the `r`-th into accumulator `r mod 4`. -/
def cntTrip (f : Vec F S4096 .f32) (t : FVec F S16 .f32) (j : ℕ) (c : Acc4) : Acc4 :=
  (addi (addi (addi (addi c.1 (indGe f t (256 * j + 16 * 0))) (indGe f t (256 * j + 16 * 4))) (indGe f t (256 * j + 16 * 8))) (indGe f t (256 * j + 16 * 12)),
   addi (addi (addi (addi c.2.1 (indGe f t (256 * j + 16 * 1))) (indGe f t (256 * j + 16 * 5))) (indGe f t (256 * j + 16 * 9))) (indGe f t (256 * j + 16 * 13)),
   addi (addi (addi (addi c.2.2.1 (indGe f t (256 * j + 16 * 2))) (indGe f t (256 * j + 16 * 6))) (indGe f t (256 * j + 16 * 10))) (indGe f t (256 * j + 16 * 14)),
   addi (addi (addi (addi c.2.2.2 (indGe f t (256 * j + 16 * 3))) (indGe f t (256 * j + 16 * 7))) (indGe f t (256 * j + 16 * 11))) (indGe f t (256 * j + 16 * 15)))
/-- The four accumulators after `n` trips. -/
def cnts (f : Vec F S4096 .f32) (t : FVec F S16 .f32) : ℕ → Acc4
  | 0 => (zero16, zero16, zero16, zero16)
  | n + 1 => cntTrip f t n (cnts f t n)
/-- Per lane, how many elements of the row on that lane are at least `t`. -/
def cntV (f : Vec F S4096 .f32) (t : FVec F S16 .f32) : IVec S16 32 :=
  addi (addi (cnts f t 16).1 (cnts f t 16).2.1) (addi (cnts f t 16).2.2.1 (cnts f t 16).2.2.2)

/-- The middle of the bracket. -/
def midOf (c : IVec S16 32 × IVec S16 32) : IVec S16 32 := shrsi (addi c.1 c.2) one16
/-- One bisection step on the words of the threshold. -/
def bisStep (f : Vec F S4096 .f32) (kv : IVec S16 32) (c : IVec S16 32 × IVec S16 32) : IVec S16 32 × IVec S16 32 :=
  (select (cmpi .sge (rotI (cntV f (bitcastToFloat .f32 (midOf c)))) kv) (midOf c) c.1,
   select (cmpi .sge (rotI (cntV f (bitcastToFloat .f32 (midOf c)))) kv) c.2 (midOf c))
/-- The bracket after `n` bisection steps. -/
def bis (f : Vec F S4096 .f32) (kv : IVec S16 32) : ℕ → IVec S16 32 × IVec S16 32
  | 0 => (zero16, broadcast S16 1065353216#32)
  | n + 1 => bisStep f kv (bis f kv n)

/-- Per lane, 1 where the chunk at `b` is above `t`, else 0. -/
def indGt (f : Vec F S4096 .f32) (t : FVec F S16 .f32) (b : ℕ) : IVec S16 32 := select (cmpf .ogt (chunk f b) t) one16 zero16
/-- Per lane, the chunk's element where it is above `t`, else 0. -/
def valGt (f : Vec F S4096 .f32) (t : FVec F S16 .f32) (b : ℕ) : FVec F S16 .f32 :=
  select (cmpf .ogt (chunk f b) t) (chunk f b) (broadcast S16 (Scalar.ofBits .f32 0x00000000#32))
/-- `g b₀ + … ` over the first `n` chunks of trip `j`, onto `a`, left to right. -/
def accR {α : Type} (add : α → α → α) (g : ℕ → α) (j : ℕ) (a : α) : ℕ → α
  | 0 => a
  | n + 1 => add (accR add g j a n) (g (256 * j + 16 * n))
/-- Count and sum of the elements above `xk` after `n` trips. -/
def fin (f : Vec F S4096 .f32) (xk : FVec F S16 .f32) : ℕ → IVec S16 32 × FVec F S16 .f32
  | 0 => (zero16, broadcast S16 (Scalar.ofBits .f32 0x00000000#32))
  | n + 1 => (accR addi (indGt f xk) n (fin f xk n).1 16, accR addf (valGt f xk) n (fin f xk n).2 16)

/-- The final vector from the length word, the threshold and the two accumulators. -/
def outOf (kv : IVec S16 32) (xk : FVec F S16 .f32) (c : IVec S16 32 × FVec F S16 .f32) : FVec F S16 .f32 :=
  divf (addf (rotF c.2) (mulf (sitofp .f32 (subi kv (rotI c.1))) xk)) (sitofp .f32 kv)

/-- What the task writes: from row `f`, the lengths `n` and its row number `w`. -/
def taskVal (w : BitVec 32) (n : IVec S16 32) (f : Vec F S4096 .f32) : FVec F S16 .f32 :=
  outOf (kOf (lenV w n)) (bitcastToFloat .f32 (bis (maskTo (lenV w n) 4096 f) (kOf (lenV w n)) 31).1)
    (fin (maskTo (lenV w n) 4096 f) (bitcastToFloat .f32 (bis (maskTo (lenV w n) 4096 f) (kOf (lenV w n)) 31).1) 16)

end Cert.Proof.KernelIdeal

end
-- ==== Proof.KernelIdeal.Steps.lean ====
/-
  The trips of the SparseCore body's four loops: each trip run once at a symbolic index, its carried value and the
  buffer it leaves stated by the vector-level definitions of `Vals`.
-/
module

public import proofs.«01_k».proof.Proof.KernelIdeal.Vals
public import Idealize.ShloMosaic.Lib.Pipeline.Value

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "gV" => (Memref.whole Cert.KernelIdeal.main_v3_scv : Memref Cert.KernelIdeal.sig Kind.scVector Space.hbm Cert.KernelIdeal.S65536 EltTy.f32)
local notation "nV" => (Memref.whole Cert.KernelIdeal.main_arg1_scv : Memref Cert.KernelIdeal.sig Kind.scVector Space.hbm Cert.KernelIdeal.S16 EltTy.i32)
local notation "oV" => (Memref.whole Cert.KernelIdeal.main_v4_scv : Memref Cert.KernelIdeal.sig Kind.scVector Space.hbm Cert.KernelIdeal.S16x16 EltTy.f32)
local notation "rV" => (Memref.whole Cert.KernelIdeal.cc1_scratch0 : Memref Cert.KernelIdeal.sig Kind.scVector Space.vmem Cert.KernelIdeal.S4096 EltTy.f32)
local notation "lV" => (Memref.whole Cert.KernelIdeal.cc1_scratch1 : Memref Cert.KernelIdeal.sig Kind.scVector Space.vmem Cert.KernelIdeal.S16 EltTy.i32)
local notation "eV" => (Memref.whole Cert.KernelIdeal.cc1_scratch2 : Memref Cert.KernelIdeal.sig Kind.scVector Space.vmem Cert.KernelIdeal.S16 EltTy.f32)
local notation "fV" => (Memref.whole Cert.KernelIdeal.cc1_scratch3 : Memref Cert.KernelIdeal.sig Kind.scVector Space.vmem Cert.KernelIdeal.S32 EltTy.f32)
local notation "iV" => (Memref.whole Cert.KernelIdeal.cc1_scratch4 : Memref Cert.KernelIdeal.sig Kind.scVector Space.vmem Cert.KernelIdeal.S32 EltTy.i32)

/-! ## Words and indices -/

/-- An index is the position of its number, -/
theorem px_val (y : S4096.Idx) : px (y 0).val = y := by
  funext a; fin_cases a; exact Fin.ext (Nat.mod_eq_of_lt (y 0).isLt)

/-- and a lane is the lane of its number. -/
theorem ln_val (x : S16.Idx) : ln (x 0).val = x := by
  funext a; fin_cases a; exact Fin.ext (Nat.mod_eq_of_lt (x 0).isLt)

/-- A lane depends on its number modulo sixteen. -/
theorem ln_mod (n : ℕ) : ln (n % 16) = ln n := by
  funext a; fin_cases a; exact Fin.ext (Nat.mod_mod n 16)

/-- The lane counter's entries. -/
theorem lanes_apply (x : S16.Idx) : lanes x = BitVec.ofNat 32 (x 0).val := by
  simp [lanes, iota]

/-- A trip's base word plus a chunk's offset, on lane `x`: the position as a word. -/
theorem word_pos (t r x : ℕ) :
    IntOp.addi (BitVec.ofNat 32 x) (Scalar.addi (Scalar.muli (Scf.iv 0#32 1#32 t) 256#32) (BitVec.ofNat 32 (16 * r))) =
      BitVec.ofNat 32 (256 * t + 16 * r + x) := by
  apply BitVec.eq_of_toNat_eq
  simp [IntOp.addi, Scalar.addi, Scalar.muli, IntOp.muli, Scf.iv, BitVec.toNat_add, BitVec.toNat_mul]
  omega

/-! ## Reading a chunk of the row -/

/-- Where a lane of a sixteen-wide slice of the row lies. -/
theorem unit_emb1 {o : Fin 1 → ℕ} {b : ℕ} (ho : o = ![b]) (inb : ∀ a, o a + S16.size a ≤ S4096.size a) (x : S16.Idx) :
    (Rect.unit (s := S4096) o S16.size inb).emb x = px (b + (x 0).val) := by
  subst ho
  have h := inb 0
  have hx : (x 0).val < 16 := (x 0).isLt
  simp at h
  funext a; fin_cases a
  apply Fin.ext
  show b + 1 * (x 0).val = (b + (x 0).val) % 4096
  rw [Nat.mod_eq_of_lt (by omega)]; omega

/-- A sixteen-wide load from the row is a chunk of it, -/
theorem readAt_chunk {o : Fin 1 → ℕ} {b : ℕ} (ho : o = ![b]) (inb : ∀ a, o a + S16.size a ≤ S4096.size a) (f : Vec F S4096 .f32) :
    View.readAt (Elt F) (rV).view (Rect.unit (s := S4096) o S16.size inb).toLoadRect f = chunk f b := by
  funext x
  exact congrArg f (unit_emb1 ho inb x)

/-- also after the cast of its shape. -/
theorem cast_readAt_chunk {o : Fin 1 → ℕ} {b : ℕ} (ho : o = ![b]) (inb : ∀ a, o a + S16.size a ≤ S4096.size a) (f : Vec F S4096 .f32) :
    shapeCast S16 (View.readAt (Elt F) (rV).view (Rect.unit (s := S4096) o S16.size inb).toLoadRect f : Vec F S16 .f32) shapeCasts_S16_S16 = chunk f b :=
  (shapeCast_self _ _).trans (readAt_chunk ho inb f)

/-! ## The masking loop -/

/-- What chunk `r` of trip `t` of the masking loop stores, from the row it loads. -/
abbrev maskVal (L : grid1.Coords) (h1 : k1_cond1 L = 1#1) (t : Fin k1_t1_loop.trips) (Lv : IVec S16 32) (f : Vec F S4096 .f32) (r : Fin 16) : FVec F S16 .f32 :=
  shapeCast S16 (select (cmpi .slt (addi lanes (broadcast S16 (Scalar.addi (Scalar.muli (Scf.iv 0#32 1#32 t) 256#32) (BitVec.ofNat 32 (16 * r.val))))) Lv)
      (shapeCast S16 (View.readAt (Elt F) (rV).view (Rect.unit (s := S4096) (k1_off2 t (BitVec.ofNat 32 (16 * r.val))) S16.size (k1_off2_inb L t h1 r)).toLoadRect f :
        Vec F S16 .f32) shapeCasts_S16_S16) (broadcast S16 (Scalar.ofBits .f32 0xBF800000#32 : F .f32))) shapeCasts_S16_S16

/-- What chunk `r` of trip `t` of the masking loop stores, and where. -/
abbrev maskPiece (L : grid1.Coords) (h1 : k1_cond1 L = 1#1) (t : Fin k1_t1_loop.trips) (Lv : IVec S16 32) (f : Vec F S4096 .f32) (r : Fin 16) :
    View.Piece (Elt F) S4096 .f32 :=
  ⟨Rect.unit (s := S4096) (k1_off2 t (BitVec.ofNat 32 (16 * r.val))) S16.size (k1_off2_inb L t h1 r),
    maskVal L h1 t Lv f r⟩

/-- The masking loop has at most sixteen trips. -/
theorem trips1 (t : Fin k1_t1_loop.trips) : t.val < 16 := lt_of_lt_of_le t.isLt k1_t1_abs.2.1

/-- One store of a masking trip puts what the trip leaves. -/
theorem maskPiece_apply (L : grid1.Coords) (h1 : k1_cond1 L = 1#1) (t : Fin k1_t1_loop.trips) (Lv : IVec S16 32) (f : Vec F S4096 .f32) (r : Fin 16) (x : S16.Idx) :
    (maskPiece L h1 t Lv (maskTo Lv (256 * t.val) f) r).2 x =
      maskTo Lv (256 * (t.val + 1)) f ((maskPiece L h1 t Lv (maskTo Lv (256 * t.val) f) r).1.emb x) := by
  have ht := trips1 t
  have hr : r.val < 16 := r.isLt
  have hx : (x 0).val < 16 := (x 0).isLt
  rw [unit_emb1 (k1_off2_eq t r)]
  change maskVal L h1 t Lv (maskTo Lv (256 * t.val) f) r x = _
  unfold maskVal
  rw [shapeCast_self, cast_readAt_chunk (k1_off2_eq t r)]
  have hp : ((px (256 * t.val + 16 * r.val + (x 0).val)) 0).val = 256 * t.val + 16 * r.val + (x 0).val :=
    Nat.mod_eq_of_lt (by omega)
  have hl : ln (256 * t.val + 16 * r.val + (x 0).val) = x := by
    rw [← ln_mod, show (256 * t.val + 16 * r.val + (x 0).val) % 16 = (x 0).val by omega, ln_val]
  show Scalar.select (IntOp.cmpi .slt (IntOp.addi (lanes x) _) (Lv x)) (maskTo Lv (256 * t.val) f (px (256 * t.val + 16 * r.val + (x 0).val))) _ = _
  rw [lanes_apply]
  simp only [broadcast]
  rw [word_pos]
  unfold maskTo
  rw [hp, if_neg (by omega), if_pos (by omega), hl]

/-- The sixteen stores of a masking trip mask its 256 entries. -/
theorem mask_writes (L : grid1.Coords) (h1 : k1_cond1 L = 1#1) (t : Fin k1_t1_loop.trips) (Lv : IVec S16 32) (f : Vec F S4096 .f32) :
    (rV).view.writes (Elt F) (maskTo Lv (256 * t.val) f)
      ((List.finRange 16).reverse.map (maskPiece L h1 t Lv (maskTo Lv (256 * t.val) f))) = maskTo Lv (256 * (t.val + 1)) f := by
  have ht := trips1 t
  funext y
  rw [← View.read_whole (Val := Elt F) cc1_scratch0 ((rV).view.writes (Elt F) _ _)]
  by_cases hy : ∃ p ∈ (List.finRange 16).reverse.map (maskPiece L h1 t Lv (maskTo Lv (256 * t.val) f)), y ∈ p.1.set
  · refine View.read_writes_apply_of_pieces _ _ (maskTo Lv (256 * (t.val + 1)) f) _ (fun p hp => ?_) y hy
    obtain ⟨r, -, rfl⟩ := List.mem_map.mp hp
    exact maskPiece_apply L h1 t Lv f r
  · rw [View.read_writes_apply_of_forall_not_mem _ _ y _ fun p hp hyp => hy ⟨p, hp, hyp⟩]
    show maskTo Lv (256 * t.val) f y = _
    have hout : (y 0).val < 256 * t.val ∨ 256 * t.val + 256 ≤ (y 0).val := by
      by_contra hc
      apply hy
      have hr : ((y 0).val - 256 * t.val) / 16 < 16 := by omega
      refine ⟨_, List.mem_map.mpr ⟨⟨((y 0).val - 256 * t.val) / 16, hr⟩, by simp, rfl⟩, ?_⟩
      have e : (maskPiece L h1 t Lv (maskTo Lv (256 * t.val) f) ⟨((y 0).val - 256 * t.val) / 16, hr⟩).1.emb (ln ((y 0).val)) = y := by
        rw [unit_emb1 (k1_off2_eq t _)]
        have : 256 * t.val + 16 * (((y 0).val - 256 * t.val) / 16) + ((ln (y 0).val) 0).val = (y 0).val := by
          show _ + (y 0).val % 16 = _; omega
        simp only [this]
        exact px_val y
      have hm := Finset.mem_map_of_mem (maskPiece L h1 t Lv (maskTo Lv (256 * t.val) f) ⟨((y 0).val - 256 * t.val) / 16, hr⟩).1.emb (Finset.mem_univ (ln ((y 0).val)))
      rw [e] at hm
      rwa [Rect.map_emb_univ] at hm
    unfold maskTo
    rcases hout with h | h
    · rw [if_pos h, if_pos (by omega)]
    · rw [if_neg (by omega), if_neg (by omega)]

/-- A trip of the masking loop masks the row's next 256 positions. -/
theorem t1_step (d : Dev nD) (L : grid1.Coords) (k1_h1 : k1_cond1 L = 1#1) (v7 v8 v32 v38) (v39 v48 : Vec F S16 .i32) (t : Fin k1_t1_loop.trips) (a : BitVec 32)
    (f : Vec F S4096 .f32) :
   ((rV).view.loc (tV d L) ↦{fullShare} maskTo (k1_pay93 (F := F) v32 v39 v48) (256 * t.val) f : sProp 𝕄) ⊢ wp frame (wpE (defs₀ (F := F)) 𝒱₀ (tV d L) none) Set.univ
     (k1_t1_body L gV (Memref.isWhole_whole _) nV (Memref.isWhole_whole _) oV (Memref.isWhole_whole _) rV (Memref.isWhole_whole _)
       lV (Memref.isWhole_whole _) eV (Memref.isWhole_whole _) fV (Memref.isWhole_whole _) iV (Memref.isWhole_whole _) cc1_scratch5 cc1_scoped0 cc1_scoped1 cc1_scoped2
       k1_h1 lanes v7 v8 v32 v38 v39 v48 t a)
     fun _ => ((rV).view.loc (tV d L) ↦{fullShare} maskTo (k1_pay93 (F := F) v32 v39 v48) (256 * (t.val + 1)) f : sProp 𝕄) := by
  iintro Hr
  sl_unfold [k1_t1_body]
  sl_exec
  sl_step
  rw [← mask_writes L k1_h1 t]
  iexact Hr

/-! ## The counting loop -/

abbrev rawGe (L : grid1.Coords) (h1 : k1_cond1 L = 1#1) (t : Fin k1_t3_loop.trips) (f : Vec F S4096 .f32) (th : FVec F S16 .f32) (r : Fin 16) : IVec S16 32 :=
  select (cmpf .oge (shapeCast S16 (View.readAt (Elt F) (rV).view (Rect.unit (s := S4096) (k1_off3 t (BitVec.ofNat 32 (16 * r.val))) S16.size
    (k1_off3_inb L t h1 r)).toLoadRect f : Vec F S16 .f32) shapeCasts_S16_S16) th) (k1_pay79) (k1_pay80)

/-- One comparison of a counting trip, as the program spells it. -/
theorem rawGe_eq (L : grid1.Coords) (h1 : k1_cond1 L = 1#1) (t : Fin k1_t3_loop.trips) (f : Vec F S4096 .f32) (th : FVec F S16 .f32) (r : Fin 16) :
    rawGe L h1 t f th r = indGe f th (256 * t.val + 16 * r.val) := by
  unfold rawGe
  rw [cast_readAt_chunk (k1_off3_eq t r)]
  rfl

/-- A counting trip, as the program spells it, adds its sixteen tests to the four counters. -/
theorem cntTrip_raw (L : grid1.Coords) (h1 : k1_cond1 L = 1#1) (t : Fin k1_t3_loop.trips) (f : Vec F S4096 .f32) (th : FVec F S16 .f32) (c0 c1 c2 c3 : IVec S16 32) :
    (addi (addi (addi (addi c0 (rawGe L h1 t f th 0)) (rawGe L h1 t f th 4)) (rawGe L h1 t f th 8)) (rawGe L h1 t f th 12),
     addi (addi (addi (addi c1 (rawGe L h1 t f th 1)) (rawGe L h1 t f th 5)) (rawGe L h1 t f th 9)) (rawGe L h1 t f th 13),
     addi (addi (addi (addi c2 (rawGe L h1 t f th 2)) (rawGe L h1 t f th 6)) (rawGe L h1 t f th 10)) (rawGe L h1 t f th 14),
     addi (addi (addi (addi c3 (rawGe L h1 t f th 3)) (rawGe L h1 t f th 7)) (rawGe L h1 t f th 11)) (rawGe L h1 t f th 15)) =
    cntTrip f th t.val (c0, c1, c2, c3) := by
  simp only [rawGe_eq]; rfl

/-- A trip of the counting loop adds the row's next sixteen chunks to the four accumulators. -/
theorem t3_step (d : Dev nD) (L : grid1.Coords) (k1_h1 : k1_cond1 L = 1#1) (k1_t2 : Fin k1_t2_loop.trips) (lo hi : IVec S16 32) (t : Fin k1_t3_loop.trips)
    (c0 c1 c2 c3 : IVec S16 32) (f : Vec F S4096 .f32) :
   ((rV).view.loc (tV d L) ↦{fullShare} f : sProp 𝕄) ⊢ wp frame (wpE (defs₀ (F := F)) 𝒱₀ (tV d L) none) Set.univ
     (k1_t3_body L gV (Memref.isWhole_whole _) nV (Memref.isWhole_whole _) oV (Memref.isWhole_whole _) rV (Memref.isWhole_whole _)
       lV (Memref.isWhole_whole _) eV (Memref.isWhole_whole _) fV (Memref.isWhole_whole _) iV (Memref.isWhole_whole _) cc1_scratch5 cc1_scoped0 cc1_scoped1 cc1_scoped2
       k1_h1 k1_pay79 k1_pay80 0#32 1#32 k1_t2 lo hi t (c0, c1, c2, c3))
     fun c => iprop(⌜c = cntTrip f (bitcastToFloat .f32 (midOf (lo, hi))) t.val (c0, c1, c2, c3)⌝ ∗ (rV).view.loc (tV d L) ↦{fullShare} f) := by
  iintro Hr
  sl_unfold [k1_t3_body]
  sl_exec
  sl_step
  isplitr
  · ipureintro
    exact cntTrip_raw L k1_h1 t f (bitcastToFloat .f32 (midOf (lo, hi))) c0 c1 c2 c3
  iexact Hr

/-! ## The final loop -/

abbrev rawChunk (L : grid1.Coords) (h1 : k1_cond1 L = 1#1) (t : Fin k1_t4_loop.trips) (f : Vec F S4096 .f32) (r : Fin 16) : FVec F S16 .f32 :=
  shapeCast S16 (View.readAt (Elt F) (rV).view (Rect.unit (s := S4096) (k1_off4 t (BitVec.ofNat 32 (16 * r.val))) S16.size
    (k1_off4_inb L t h1 r)).toLoadRect f : Vec F S16 .f32) shapeCasts_S16_S16
abbrev rawGt (L : grid1.Coords) (h1 : k1_cond1 L = 1#1) (t : Fin k1_t4_loop.trips) (f : Vec F S4096 .f32) (th : FVec F S16 .f32) (r : Fin 16) : IVec S16 32 :=
  select (cmpf .ogt (rawChunk L h1 t f r) th) (k1_pay79) (k1_pay80)
abbrev rawVal (L : grid1.Coords) (h1 : k1_cond1 L = 1#1) (t : Fin k1_t4_loop.trips) (f : Vec F S4096 .f32) (th : FVec F S16 .f32) (r : Fin 16) : FVec F S16 .f32 :=
  select (cmpf .ogt (rawChunk L h1 t f r) th) (rawChunk L h1 t f r) (broadcast S16 (Scalar.ofBits .f32 0x00000000#32))

/-- One count of a final trip, as the program spells it, -/
theorem rawGt_eq (L : grid1.Coords) (h1 : k1_cond1 L = 1#1) (t : Fin k1_t4_loop.trips) (f : Vec F S4096 .f32) (th : FVec F S16 .f32) (r : Fin 16) :
    rawGt L h1 t f th r = indGt f th (256 * t.val + 16 * r.val) := by
  unfold rawGt rawChunk
  rw [cast_readAt_chunk (k1_off4_eq t r)]
  rfl
/-- and one summand of it. -/
theorem rawVal_eq (L : grid1.Coords) (h1 : k1_cond1 L = 1#1) (t : Fin k1_t4_loop.trips) (f : Vec F S4096 .f32) (th : FVec F S16 .f32) (r : Fin 16) :
    rawVal L h1 t f th r = valGt f th (256 * t.val + 16 * r.val) := by
  unfold rawVal rawChunk
  rw [cast_readAt_chunk (k1_off4_eq t r)]
  rfl

/-- Sixteen additions in a row are the running sum of sixteen terms. -/
theorem accR_raw {α : Type} (add : α → α → α) (g : ℕ → α) (g' : Fin 16 → α) (j : ℕ) (a : α) (h : ∀ r, g' r = g (256 * j + 16 * r.val)) :
    add (add (add (add (add (add (add (add (add (add (add (add (add (add (add (add a (g' 0)) (g' 1)) (g' 2)) (g' 3)) (g' 4)) (g' 5)) (g' 6)) (g' 7))
      (g' 8)) (g' 9)) (g' 10)) (g' 11)) (g' 12)) (g' 13)) (g' 14)) (g' 15) = accR add g j a 16 := by
  simp only [h]; rfl

/-- A trip of the final loop adds the row's next sixteen chunks to the count and to the sum. -/
theorem t4_step (d : Dev nD) (L : grid1.Coords) (k1_h1 : k1_cond1 L = 1#1) (v6 v32 v38 : IVec S16 32) (lo : IVec S16 32) (t : Fin k1_t4_loop.trips)
    (c : IVec S16 32) (s : FVec F S16 .f32) (f : Vec F S4096 .f32) :
   ((rV).view.loc (tV d L) ↦{fullShare} f : sProp 𝕄) ⊢ wp frame (wpE (defs₀ (F := F)) 𝒱₀ (tV d L) none) Set.univ
     (k1_t4_body L gV (Memref.isWhole_whole _) nV (Memref.isWhole_whole _) oV (Memref.isWhole_whole _) rV (Memref.isWhole_whole _)
       lV (Memref.isWhole_whole _) eV (Memref.isWhole_whole _) fV (Memref.isWhole_whole _) iV (Memref.isWhole_whole _) cc1_scratch5 cc1_scoped0 cc1_scoped1 cc1_scoped2
       k1_h1 v6 k1_pay79 k1_pay80 v32 v38 lo t (c, s))
     fun r => iprop(⌜r = (accR addi (indGt f (bitcastToFloat .f32 lo)) t.val c 16, accR addf (valGt f (bitcastToFloat .f32 lo)) t.val s 16)⌝ ∗
       (rV).view.loc (tV d L) ↦{fullShare} f) := by
  iintro Hr
  sl_unfold [k1_t4_body]
  sl_exec
  sl_step
  isplitr
  · ipureintro
    refine Prod.ext ?_ ?_
    · exact accR_raw addi _ (rawGt L k1_h1 t f (bitcastToFloat .f32 lo)) t.val c (rawGt_eq L k1_h1 t f _)
    · exact accR_raw addf _ (rawVal L k1_h1 t f (bitcastToFloat .f32 lo)) t.val s (rawVal_eq L k1_h1 t f _)
  iexact Hr

/-! ## The all-lanes sums -/

/-- Where a lane of a sixteen-wide slice of a rotation buffer lies. -/
theorem unit_emb32 {b : ℕ} (inb : ∀ a, (![b] : Fin 1 → ℕ) a + S16.size a ≤ S32.size a) (x : S16.Idx) :
    (((Rect.unit (s := S32) ![b] S16.size inb).emb x) 0).val = b + (x 0).val := by
  show b + 1 * (x 0).val = _
  omega

/-- A buffer of two copies of a vector, read from position `s` on: the vector turned by `s`. -/
theorem readAt_rot {e : EltTy} (v : View sig .scVector .vmem S32 e) (g : v.ty.Contents (Elt F)) (a : S16.Idx → Elt F e) (s : ℕ)
    (inb : ∀ a, (![s] : Fin 1 → ℕ) a + S16.size a ≤ S32.size a) (L : List (View.Piece (Elt F) S32 e)) :
    View.readAt (Elt F) v (Rect.unit (s := S32) ![s] S16.size inb).toLoadRect
      (v.writes (Elt F) g (⟨Rect.unit (s := S32) ![16] S16.size inb_S32_S16_16, a⟩ :: ⟨Rect.unit (s := S32) ![0] S16.size inb_S32_S16_0, a⟩ :: L)) =
    fun x : S16.Idx => a (ln ((x 0).val + s)) := by
  funext x
  have hx : (x 0).val < 16 := (x 0).isLt
  have hs : s + 16 ≤ 32 := by have := inb 0; simp at this; omega
  have hy : (((Rect.unit (s := S32) ![s] S16.size inb).toLoadRect.idx x) 0).val = s + (x 0).val := unit_emb32 inb x
  rw [View.readAt_apply]
  by_cases h : s + (x 0).val < 16
  · rw [View.read_writes_cons_miss_of_axis _ _ _ _ _ 0 16 16 rfl rfl rfl (Or.inl (by rw [hy]; exact h))]
    refine (View.read_writes_cons_hit_of_coords v g (Rect.unit (s := S32) ![0] S16.size _) a L (ln ((x 0).val + s)) _ fun i => ?_)
    fin_cases i
    show (((Rect.unit (s := S32) ![s] S16.size inb).toLoadRect.idx x) 0).val = 0 + 1 * (((x 0).val + s) % 16)
    rw [hy]; omega
  · refine (View.read_writes_cons_hit_of_coords v g (Rect.unit (s := S32) ![16] S16.size _) a _ (ln ((x 0).val + s)) _ fun i => ?_)
    fin_cases i
    show (((Rect.unit (s := S32) ![s] S16.size inb).toLoadRect.idx x) 0).val = 16 + 1 * (((x 0).val + s) % 16)
    rw [hy]; omega

/-- One step of an all-lanes sum through the buffer: the vector stored twice, read `s` further on, added. Carries the stores so far. -/
def rotPush {e : EltTy} (add : (S16.Idx → Elt F e) → (S16.Idx → Elt F e) → S16.Idx → Elt F e) (v : View sig .scVector .vmem S32 e)
    (s : ℕ) (inb : ∀ a, (![s] : Fin 1 → ℕ) a + S16.size a ≤ S32.size a) (aL : (S16.Idx → Elt F e) × List (View.Piece (Elt F) S32 e)) :
    (S16.Idx → Elt F e) × List (View.Piece (Elt F) S32 e) :=
  (add aL.1 (shapeCast S16 (v.readCov (
      (⟨Rect.unit (s := S32) ![16] S16.size inb_S32_S16_16, shapeCast S16 aL.1 shapeCasts_S16_S16⟩ ::
        ⟨Rect.unit (s := S32) ![0] S16.size inb_S32_S16_0, shapeCast S16 aL.1 shapeCasts_S16_S16⟩ :: aL.2)) (Rect.unit (s := S32) ![s] S16.size inb).toLoadRect : S16.Idx → Elt F e) shapeCasts_S16_S16),
    ⟨Rect.unit (s := S32) ![16] S16.size inb_S32_S16_16, shapeCast S16 aL.1 shapeCasts_S16_S16⟩ ::
      ⟨Rect.unit (s := S32) ![0] S16.size inb_S32_S16_0, shapeCast S16 aL.1 shapeCasts_S16_S16⟩ :: aL.2)

/-- One rotation through the buffer adds the lane that stands `s` further. -/
theorem rotPush_fst {e : EltTy} (add : (S16.Idx → Elt F e) → (S16.Idx → Elt F e) → S16.Idx → Elt F e) (v : View sig .scVector .vmem S32 e)
    (s : ℕ) (inb : ∀ a, (![s] : Fin 1 → ℕ) a + S16.size a ≤ S32.size a) (aL : (S16.Idx → Elt F e) × List (View.Piece (Elt F) S32 e)) :
    (rotPush add v s inb aL).1 = add aL.1 (fun x => aL.1 (ln ((x 0).val + s))) := by
  refine congrArg (add aL.1) ?_
  refine (shapeCast_self _ _).trans ?_
  rw [shapeCast_self]
  exact readAt_rot v v.junk aL.1 s inb aL.2

/-- The four steps of an all-lanes sum. -/
abbrev rotAll {e : EltTy} (add : (S16.Idx → Elt F e) → (S16.Idx → Elt F e) → S16.Idx → Elt F e) (v : View sig .scVector .vmem S32 e)
    (a : S16.Idx → Elt F e) : (S16.Idx → Elt F e) × List (View.Piece (Elt F) S32 e) :=
  rotPush add v 8 inb_S32_S16_8 (rotPush add v 4 inb_S32_S16_4 (rotPush add v 2 inb_S32_S16_2 (rotPush add v 1 inb_S32_S16_1 (a, []))))

/-- The four rotations of integers, as functions of the lanes, -/
theorem rotAllI (v : View sig .scVector .vmem S32 .i32) (a : IVec S16 32) :
    (rotAll (F := F) (e := .i32) addi v a).1 = rotI a := by
  simp only [rotAll, rotPush_fst]; rfl

/-- and those of floats. -/
theorem rotAllF (v : View sig .scVector .vmem S32 .f32) (a : FVec F S16 .f32) :
    (rotAll (F := F) (e := .f32) addf v a).1 = rotF a := by
  simp only [rotAll, rotPush_fst]; rfl

/-- The counting loop has sixteen trips. -/
theorem trips3 : k1_t3_loop.trips = 16 := by decide
/-- One step of the bisection, as the program spells it. -/
theorem bis_raw (kv lo hi : IVec S16 32) (f : Vec F S4096 .f32) (c0 c1 c2 c3 : IVec S16 32)
    (hc : (c0, c1, c2, c3) = cnts f (bitcastToFloat .f32 (midOf (lo, hi))) 16) :
    (select (cmpi .sge (rotAll (F := F) (e := .i32) addi (iV).view (k1_pay33 c0 c1 c2 c3)).1 kv) (midOf (lo, hi)) lo,
      select (cmpi .sge (rotAll (F := F) (e := .i32) addi (iV).view (k1_pay33 c0 c1 c2 c3)).1 kv) hi (midOf (lo, hi))) = bisStep f kv (lo, hi) := by
  rw [rotAllI]
  simp only [bisStep, cntV, ← hc]
  rfl

seal View.readAt View.readCov View.writes shapeCast

/-- A trip of the bisection loop is one bisection step. -/
theorem t2_step (d : Dev nD) (L : grid1.Coords) (k1_h1 : k1_cond1 L = 1#1) (v6 v32 v38 : IVec S16 32) (v39 v48 : Vec F S16 .i32) (t : Fin k1_t2_loop.trips)
    (lo hi : IVec S16 32) (f : Vec F S4096 .f32) (g : Vec F S32 .i32) :
   (iprop(((rV).view.loc (tV d L) ↦{fullShare} f) ∗ ((iV).view.loc (tV d L) ↦{fullShare} g)) : sProp 𝕄) ⊢ wp frame (wpE (defs₀ (F := F)) 𝒱₀ (tV d L) none) Set.univ
     (k1_t2_body L gV (Memref.isWhole_whole _) nV (Memref.isWhole_whole _) oV (Memref.isWhole_whole _) rV (Memref.isWhole_whole _)
       lV (Memref.isWhole_whole _) eV (Memref.isWhole_whole _) fV (Memref.isWhole_whole _) iV (Memref.isWhole_whole _) cc1_scratch5 cc1_scoped0 cc1_scoped1 cc1_scoped2
       k1_h1 v6 k1_pay79 k1_pay80 v32 v38 v39 v48 t (lo, hi))
     fun c => iprop(⌜c = bisStep f (k1_pay94 (F := F) v32 v39 v48) (lo, hi)⌝ ∗ ((rV).view.loc (tV d L) ↦{fullShare} f)
       ∗ ∃ g, ((iV).view.loc (tV d L) ↦{fullShare} g)) := by
  iintro ⟨Hr, Hi⟩
  sl_unfold [k1_t2_body]
  sl_exec
  sl_for (fun (n : Nat) (c : Acc4) => (iprop(⌜c = cnts f (bitcastToFloat .f32 (midOf (lo, hi))) n⌝ ∗ ((rV).view.loc (tV d L) ↦{fullShare} f)) : sProp 𝕄)) $$ [Hr]
  case region =>
    intro k c
    iintro ⟨%hc, Hr⟩
    obtain ⟨c0, c1, c2, c3⟩ := c
    rw [show cnts f (bitcastToFloat .f32 (midOf (lo, hi))) (k.val + 1) = cntTrip f (bitcastToFloat .f32 (midOf (lo, hi))) k.val (c0, c1, c2, c3) from by rw [hc]; rfl]
    iapply (t3_step d L k1_h1 t lo hi k c0 c1 c2 c3 f) $$ Hr
  · isplitr
    · ipureintro; rfl
    iexact Hr
  iintro %c ⟨%hc, Hr⟩
  obtain ⟨c0, c1, c2, c3⟩ := c
  sl_exec
  sl_step
  isplitr
  · ipureintro
    exact bis_raw (F := F) (k1_pay94 (F := F) v32 v39 v48) lo hi f c0 c1 c2 c3 (hc.trans (congrArg _ trips3))
  isplitl [Hr]
  · iexact Hr
  iexists _
  iexact Hi

end Cert.Proof.KernelIdeal

end
-- ==== Proof.KernelIdeal.Tile.lean ====
module

public import proofs.«01_k».proof.Proof.KernelIdeal.Steps

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "gV" => (Memref.whole Cert.KernelIdeal.main_v3_scv : Memref Cert.KernelIdeal.sig Kind.scVector Space.hbm Cert.KernelIdeal.S65536 EltTy.f32)
local notation "nV" => (Memref.whole Cert.KernelIdeal.main_arg1_scv : Memref Cert.KernelIdeal.sig Kind.scVector Space.hbm Cert.KernelIdeal.S16 EltTy.i32)
local notation "oV" => (Memref.whole Cert.KernelIdeal.main_v4_scv : Memref Cert.KernelIdeal.sig Kind.scVector Space.hbm Cert.KernelIdeal.S16x16 EltTy.f32)
local notation "rV" => (Memref.whole Cert.KernelIdeal.cc1_scratch0 : Memref Cert.KernelIdeal.sig Kind.scVector Space.vmem Cert.KernelIdeal.S4096 EltTy.f32)
local notation "lV" => (Memref.whole Cert.KernelIdeal.cc1_scratch1 : Memref Cert.KernelIdeal.sig Kind.scVector Space.vmem Cert.KernelIdeal.S16 EltTy.i32)
local notation "eV" => (Memref.whole Cert.KernelIdeal.cc1_scratch2 : Memref Cert.KernelIdeal.sig Kind.scVector Space.vmem Cert.KernelIdeal.S16 EltTy.f32)
local notation "fV" => (Memref.whole Cert.KernelIdeal.cc1_scratch3 : Memref Cert.KernelIdeal.sig Kind.scVector Space.vmem Cert.KernelIdeal.S32 EltTy.f32)
local notation "iV" => (Memref.whole Cert.KernelIdeal.cc1_scratch4 : Memref Cert.KernelIdeal.sig Kind.scVector Space.vmem Cert.KernelIdeal.S32 EltTy.i32)

variable (d : Dev nD) (L : grid1.Coords)

/-- The row of logits the task fetches and the result row it writes, as the body spells them. -/
abbrev gRowK (h1 : k1_cond1 L = 1#1) : Memref sig .scVector .hbm S4096 .f32 := (gV).slice (Rect.unit (s := S65536) (k1_off1 L) S4096.size (k1_off1_inb L h1)) (fun _ => rfl)
abbrev oRowK (h1 : k1_cond1 L = 1#1) : Memref sig .scVector .hbm S16 .f32 :=
  ((oV).slice (Rect.unit (s := S16x16) (k1_off5 L) S1x16.size (k1_off5_inb L h1)) (fun _ => rfl)).squeeze S16 squeezes_S1x16_S16

/-- The three scoped DMA cells the body names: the row's fetch, the lengths' fetch, the write-out. -/
abbrev cAcell : GSem nD τ sig := (tV d L, .dma cc1_scoped0.sem)
abbrev cBcell : GSem nD τ sig := (tV d L, .dma cc1_scoped1.sem)
abbrev cCcell : GSem nD τ sig := (tV d L, .dma cc1_scoped2.sem)

/-- Nothing is masked before the first trip. -/
theorem maskTo_zero (Lv : IVec S16 32) (f : Vec F S4096 .f32) : maskTo Lv 0 f = f := by
  funext y; exact if_neg (Nat.not_lt_zero _)

/-- The lengths, fetched whole and loaded whole, are the lengths. -/
theorem lens_read (fl : (lV).view.ty.Contents (Elt F)) (N : S16.Idx → Elt F .i32) :
    shapeCast S16 (View.readAt (Elt F) (lV).view (Rect.unit (s := S16) ![0] S16.size inb_S16_S16_0).toLoadRect
      ((lV).view.write (Elt F) fl N Finset.univ) : Vec F S16 .i32) shapeCasts_S16_S16 = N := by
  refine (shapeCast_self _ _).trans ?_
  funext x
  have hx : (Rect.unit (s := S16) ![0] S16.size inb_S16_S16_0).emb x = x := by
    funext a; fin_cases a
    apply Fin.ext
    show 0 + 1 * (x 0).val = (x 0).val
    omega
  refine (congrFun (View.write_whole_univ cc1_scratch1 fl N) _).trans ?_
  exact congrArg N hx

/-- A sixteen-lane view read after one store over all of it: the stored vector. -/
theorem read_writes_full {e : EltTy} {sp : Space} (v : View sig .scVector sp S16 e) (f : v.ty.Contents (Elt F)) (w : S16.Idx → Elt F e) :
    v.read (Elt F) (v.writes (Elt F) f [⟨Rect.whole S16, w⟩]) = w := by
  funext y
  have hr := View.read_writes_cons_emb (v := v) (f := f) (Rect.whole S16) w [] y
  have hy : (Rect.whole S16).emb y = y := by
    funext a; fin_cases a
    apply Fin.ext
    show 0 + 1 * (y 0).val = (y 0).val
    omega
  rw [hy] at hr
  exact hr

/-- A store of a whole sixteen-wide buffer is read back. -/
theorem read_writes_unit {e : EltTy} {sp : Space} (v : View sig .scVector sp S16 e) (f : v.ty.Contents (Elt F)) (w : S16.Idx → Elt F e) :
    v.read (Elt F) (v.writes (Elt F) f [⟨Rect.unit (s := S16) ![0] S16.size inb_S16_S16_0, w⟩]) = w := by
  funext y
  have hr := View.read_writes_cons_emb (v := v) (f := f) (Rect.unit (s := S16) ![0] S16.size inb_S16_S16_0) w [] y
  have hy : (Rect.unit (s := S16) ![0] S16.size inb_S16_S16_0).emb y = y := by
    funext a; fin_cases a
    apply Fin.ext
    show 0 + 1 * (y 0).val = (y 0).val
    omega
  rw [hy] at hr
  exact hr

seal View.readAt View.readCov View.writes shapeCast in
/-- The task's body run from its pieces in the body's spelling. -/
theorem tile_run (k1_h1 : k1_cond1 L = 1#1) (O : CellTallies nD τ sig (HIx 1)) (W : Waits sig (HIx 1)) (q : PosShare TreeShare)
    (G : Buf (Elt F) (gLoc d)) (N : Buf (Elt F) (nLoc d)) (fo : Buf (Elt F) (oLoc d))
    (fr : Buf (Elt F) ((rV).view.loc (tV d L))) (fl : Buf (Elt F) ((lV).view.loc (tV d L))) (fe : Buf (Elt F) ((eV).view.loc (tV d L)))
    (ff : Buf (Elt F) ((fV).view.loc (tV d L))) (fi : Buf (Elt F) ((iV).view.loc (tV d L))) :
    (iprop(Transfers.MayWaits (tV d L) (default : HIx 1) O
        ∗ ((gRowK L k1_h1).view.loc (tV d L) ↦[(gRowK L k1_h1).view.set]{fullShare} G)
        ∗ ((nV).view.loc (tV d L) ↦{q} N)
        ∗ ((oRowK L k1_h1).view.loc (tV d L) ↦[(oRowK L k1_h1).view.set]{fullShare} fo)
        ∗ ((rV).view.loc (tV d L) ↦{fullShare} fr)
        ∗ ((lV).view.loc (tV d L) ↦{fullShare} fl)
        ∗ ((eV).view.loc (tV d L) ↦{fullShare} fe)
        ∗ ((fV).view.loc (tV d L) ↦{fullShare} ff)
        ∗ ((iV).view.loc (tV d L) ↦{fullShare} fi)
        ∗ semVal (cAcell d L) 0 ∗ semVal (cBcell d L) 0 ∗ semVal (cCcell d L) 0
        ∗ owes (tV d L) O W) : sProp 𝕄)
      ⊢ wp frame (wpE (defs₀ (F := F)) 𝒱₀ (tV d L) none) Set.univ
          (cc1__sc_topk_kernel L gV (Memref.isWhole_whole _) nV (Memref.isWhole_whole _) oV (Memref.isWhole_whole _)
            rV (Memref.isWhole_whole _) lV (Memref.isWhole_whole _) eV (Memref.isWhole_whole _) fV (Memref.isWhole_whole _) iV (Memref.isWhole_whole _)
            cc1_scratch5 cc1_scoped0 cc1_scoped1 cc1_scoped2)
          fun _ => iprop(((gRowK L k1_h1).view.loc (tV d L) ↦[(gRowK L k1_h1).view.set]{fullShare} G)
            ∗ ((nV).view.loc (tV d L) ↦{q} N)
            ∗ (∃ fO, ⌜(oRowK L k1_h1).view.read (Elt F) fO = taskVal (wWord L) N ((gRowK L k1_h1).view.read (Elt F) G)⌝
                ∗ ((oRowK L k1_h1).view.loc (tV d L) ↦[(oRowK L k1_h1).view.set]{fullShare} fO))
            ∗ (∃ f, (rV).view.loc (tV d L) ↦{fullShare} f)
            ∗ (∃ f, (lV).view.loc (tV d L) ↦{fullShare} f)
            ∗ (∃ f, (eV).view.loc (tV d L) ↦{fullShare} f)
            ∗ (∃ f, (fV).view.loc (tV d L) ↦{fullShare} f)
            ∗ (∃ f, (iV).view.loc (tV d L) ↦{fullShare} f)
            ∗ semVal (cAcell d L) 0 ∗ semVal (cBcell d L) 0 ∗ semVal (cCcell d L) 0
            ∗ ∃ W', owes (tV d L) O W') := by
  iintro ⟨#Hmw, Hg, Hn, Ho, Hr, Hl, He, Hf, Hi, HA, HB, HC, HO⟩
  sl_unfold [cc1__sc_topk_kernel]
  sl_exec (disch := exact View.amount_pos _ _ (show 0 < S4096.numel by decide))
  have hLv : k1_pay93 (F := F) (tile_run.sl.v32 d L N fl) (tile_run.sl.v39 d L N fl) (tile_run.sl.v48 d L N fl) = lenV (wWord L) N := by
    refine Eq.trans (b := (rotAll (F := F) (e := .i32) addi (iV).view (tile_run.sl.v14 d L N fl)).1) rfl ?_
    rw [rotAllI, lenV]
    exact congrArg (fun n => rotI (lenSel (wWord L) n)) (lens_read fl N)
  sl_for (fun (n : Nat) (_ : BitVec 32) => (iprop((rV).view.loc (tV d L) ↦{fullShare} maskTo
    (k1_pay93 (F := F) (tile_run.sl.v32 d L N fl) (tile_run.sl.v39 d L N fl) (tile_run.sl.v48 d L N fl)) (256 * n) ((gRowK L k1_h1).view.read (Elt F) G)) : sProp 𝕄)) $$ [Hr]
  case region =>
    intro k c
    exact t1_step d L k1_h1 _ _ _ _ _ _ k c _
  · rw [Nat.mul_zero, maskTo_zero, ← View.write_whole_univ cc1_scratch0 fr ((gRowK L k1_h1).view.read (Elt F) G)]
    iexact Hr
  iintro %c1 Hr
  sl_exec
  sl_for (fun (n : Nat) (c : IVec S16 32 × IVec S16 32) => (iprop(⌜c = bis (maskTo (k1_pay93 (F := F) (tile_run.sl.v32 d L N fl) (tile_run.sl.v39 d L N fl) (tile_run.sl.v48 d L N fl)) 4096 ((gRowK L k1_h1).view.read (Elt F) G))
      (k1_pay94 (F := F) (tile_run.sl.v32 d L N fl) (tile_run.sl.v39 d L N fl) (tile_run.sl.v48 d L N fl)) n⌝
    ∗ ((rV).view.loc (tV d L) ↦{fullShare} maskTo (k1_pay93 (F := F) (tile_run.sl.v32 d L N fl) (tile_run.sl.v39 d L N fl) (tile_run.sl.v48 d L N fl)) 4096 ((gRowK L k1_h1).view.read (Elt F) G))
    ∗ ∃ g, ((iV).view.loc (tV d L) ↦{fullShare} g)) : sProp 𝕄)) $$ [Hr Hi]
  case region =>
    intro k c
    iintro ⟨%hc, Hr, %g, Hi⟩
    obtain ⟨lo, hi⟩ := c
    rw [show ∀ kv f, bis (F := F) f kv (k.val + 1) = bisStep f kv (bis f kv k.val) from fun _ _ => rfl, ← hc]
    iapply (t2_step d L k1_h1 _ _ _ _ _ k lo hi _ g) $$ [Hr Hi]
    isplitl [Hr]; · iexact Hr
    iexact Hi
  · isplitr; · ipureintro; rfl
    isplitl [Hr]; · iexact Hr
    iexists _; iexact Hi
  iintro %c2 ⟨%hc2, Hr, %g2, Hi⟩
  obtain ⟨lo, hi⟩ := c2
  sl_exec
  sl_for (fun (n : Nat) (c : IVec S16 32 × FVec F S16 .f32) => (iprop(⌜c = fin (maskTo (k1_pay93 (F := F) (tile_run.sl.v32 d L N fl) (tile_run.sl.v39 d L N fl) (tile_run.sl.v48 d L N fl)) 4096 ((gRowK L k1_h1).view.read (Elt F) G))
      (bitcastToFloat .f32 lo) n⌝
    ∗ ((rV).view.loc (tV d L) ↦{fullShare} maskTo (k1_pay93 (F := F) (tile_run.sl.v32 d L N fl) (tile_run.sl.v39 d L N fl) (tile_run.sl.v48 d L N fl)) 4096 ((gRowK L k1_h1).view.read (Elt F) G))) : sProp 𝕄)) $$ [Hr]
  case region =>
    intro k c
    iintro ⟨%hc, Hr⟩
    obtain ⟨c, s⟩ := c
    rw [show ∀ xk f, fin (F := F) f xk (k.val + 1) = (accR addi (indGt f xk) k.val (fin f xk k.val).1 16, accR addf (valGt f xk) k.val (fin f xk k.val).2 16) from fun _ _ => rfl, ← hc]
    iapply (t4_step d L k1_h1 _ _ _ lo k c s _) $$ Hr
  · isplitr; · ipureintro; rfl
    iexact Hr
  iintro %c4 ⟨%hc4, Hr⟩
  obtain ⟨c, s⟩ := c4
  sl_exec
  sl_step
  isplitl [Hg]; · iexact Hg
  isplitl [Hn]; · iexact Hn
  isplitl [Ho]
  · iexists _
    isplitr
    swap; · iexact Ho
    ipureintro
    rw [read_writes_full]
    refine Eq.trans (b := (eV).view.read (Elt F) ((eV).view.writes (Elt F) fe [⟨Rect.unit (s := S16) ![0] S16.size inb_S16_S16_0,
      shapeCast S16 (divf (addf (rotAll (F := F) (e := .f32) addf (fV).view s).1
        (mulf (sitofp .f32 (subi (k1_pay94 (F := F) (tile_run.sl.v32 d L N fl) (tile_run.sl.v39 d L N fl) (tile_run.sl.v48 d L N fl)) (rotAll (F := F) (e := .i32) addi (iV).view c).1))
          (bitcastToFloat .f32 lo))) (sitofp .f32 (k1_pay94 (F := F) (tile_run.sl.v32 d L N fl) (tile_run.sl.v39 d L N fl) (tile_run.sl.v48 d L N fl)))) shapeCasts_S16_S16⟩])) rfl ?_
    rw [read_writes_unit, rotAllI, rotAllF, shapeCast_self]
    have hk : k1_pay94 (F := F) (tile_run.sl.v32 d L N fl) (tile_run.sl.v39 d L N fl) (tile_run.sl.v48 d L N fl)
        = kOf (k1_pay93 (F := F) (tile_run.sl.v32 d L N fl) (tile_run.sl.v39 d L N fl) (tile_run.sl.v48 d L N fl)) := rfl
    rw [hk, hLv] at hc2
    rw [hLv] at hc4
    rw [hk, hLv]
    have h31 : Scf.trips k1_t2_loop.lb k1_t2_loop.ub k1_t2_loop.st = 31 := by decide
    have h16 : Scf.trips k1_t4_loop.lb k1_t4_loop.ub k1_t4_loop.st = 16 := by decide
    rw [h31] at hc2
    rw [h16] at hc4
    unfold taskVal
    rw [← hc2, ← hc4]
    rfl
  isplitl [Hr]; · iexists _; iexact Hr
  isplitl [Hl]; · iexists _; iexact Hl
  isplitl [He]; · iexists _; iexact He
  isplitl [Hf]; · iexists _; iexact Hf
  isplitl [Hi]; · iexists _; iexact Hi
  isplitl [HA]; · iexact HA
  isplitl [HB]; · iexact HB
  isplitl [HC]; · iexact HC
  iexists _; iexact HO

end Cert.Proof.KernelIdeal

end
-- ==== Proof.KernelIdeal.Call.lean ====
/-
  The SparseCore call: which elements each tile is dealt, the tile's obligation, and how the call's operands split
  into the tiles' shares and its results gather from theirs.
-/
module

public import proofs.«01_k».proof.Proof.KernelIdeal.Tile

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "gV" => (Memref.whole Cert.KernelIdeal.main_v3_scv : Memref Cert.KernelIdeal.sig Kind.scVector Space.hbm Cert.KernelIdeal.S65536 EltTy.f32)
local notation "nV" => (Memref.whole Cert.KernelIdeal.main_arg1_scv : Memref Cert.KernelIdeal.sig Kind.scVector Space.hbm Cert.KernelIdeal.S16 EltTy.i32)
local notation "oV" => (Memref.whole Cert.KernelIdeal.main_v4_scv : Memref Cert.KernelIdeal.sig Kind.scVector Space.hbm Cert.KernelIdeal.S16x16 EltTy.f32)
local notation "rV" => (Memref.whole Cert.KernelIdeal.cc1_scratch0 : Memref Cert.KernelIdeal.sig Kind.scVector Space.vmem Cert.KernelIdeal.S4096 EltTy.f32)
local notation "lV" => (Memref.whole Cert.KernelIdeal.cc1_scratch1 : Memref Cert.KernelIdeal.sig Kind.scVector Space.vmem Cert.KernelIdeal.S16 EltTy.i32)
local notation "eV" => (Memref.whole Cert.KernelIdeal.cc1_scratch2 : Memref Cert.KernelIdeal.sig Kind.scVector Space.vmem Cert.KernelIdeal.S16 EltTy.f32)
local notation "fV" => (Memref.whole Cert.KernelIdeal.cc1_scratch3 : Memref Cert.KernelIdeal.sig Kind.scVector Space.vmem Cert.KernelIdeal.S32 EltTy.f32)
local notation "iV" => (Memref.whole Cert.KernelIdeal.cc1_scratch4 : Memref Cert.KernelIdeal.sig Kind.scVector Space.vmem Cert.KernelIdeal.S32 EltTy.i32)

variable (m : (ℓ : Loc nD τ sig) → Buf (Elt F) ℓ) (G : (d : Dev nD) → Buf (Elt F) (gLoc d))

/-! ## The pieces -/

/-- The logits row, and the result row, of tile `(c, i)`; and of SparseCore `c`'s tiles together. -/
def gS (c i : ℕ) : Finset S65536.Idx := Finset.univ.filter fun y => (y 0).val / 4096 = 2 * i + c
def gC (c : ℕ) : Finset S65536.Idx := Finset.univ.filter fun y => (y 0).val / 4096 % 2 = c
def oS (c i : ℕ) : Finset S16x16.Idx := Finset.univ.filter fun y => (y 0).val = 2 * i + c
def oC (c : ℕ) : Finset S16x16.Idx := Finset.univ.filter fun y => (y 0).val % 2 = c

/-- The read shares of the lengths: SparseCore `c`'s, and its tile `i`'s. -/
abbrev qC (c : ℕ) : PosShare TreeShare := Transfers.shareTokN fullShare c
abbrev qS (c i : ℕ) : PosShare TreeShare := Transfers.shareTokN (qC c) i

/-- Position `n mod 65536` of the flat logits, and row `w` of them. -/
def gx (n : ℕ) : S65536.Idx := fun | 0 => ⟨n % 65536, Nat.mod_lt _ (by decide)⟩ | ⟨_ + 1, h⟩ => absurd h (Nat.not_lt.2 (Nat.le_add_left _ _))
def rowOf (g : Vec F S65536 .f32) (w : ℕ) : Vec F S4096 .f32 := fun x => g (gx (4096 * w + (x 0).val))
/-- What the SparseCore call leaves in its result: row `w` is task `w`'s vector. -/
def resO (g : Vec F S65536 .f32) (n : IVec S16 32) : Vec F S16x16 .f32 := fun y =>
  taskVal (BitVec.ofNat 32 (y 0).val) n (rowOf g (y 0).val) (ln (y 1).val)

abbrev goP (d : Dev nD) (c i : ℕ) : sProp 𝕄 :=
  iprop((gLoc d ↦[gS c i]{fullShare} G d) ∗ (nLoc d ↦{qS c i} m (nLoc d)) ∗ (oLoc d ↦[oS c i]{fullShare} m (oLoc d)))
abbrev tdP (d : Dev nD) (c i : ℕ) : sProp 𝕄 :=
  iprop((gLoc d ↦[gS c i]{fullShare} G d) ∗ (nLoc d ↦{qS c i} m (nLoc d)) ∗ (oLoc d ↦[oS c i]{fullShare} resO (G d) (m (nLoc d))))
abbrev stP (d : Dev nD) (c : ℕ) : sProp 𝕄 :=
  iprop((gLoc d ↦[gC c]{fullShare} G d) ∗ (nLoc d ↦{qC c} m (nLoc d)) ∗ (oLoc d ↦[oC c]{fullShare} m (oLoc d)))
abbrev dnP (d : Dev nD) (c : ℕ) : sProp 𝕄 :=
  iprop((gLoc d ↦[gC c]{fullShare} G d) ∗ (nLoc d ↦{qC c} m (nLoc d)) ∗ (oLoc d ↦[oC c]{fullShare} resO (G d) (m (nLoc d))))

/-- What the call's handshakes carry. -/
def P : (K (F := F)).Pay (nD := nD) (Val := Elt F) (Name := ℕ) (U := UU) where
  st := fun _ d c => stP m G d c.val
  dn := fun _ d c => dnP m G d c.val
  go := fun _ d c i => goP m G d c.val i.val
  td := fun _ d c i => tdP m G d c.val i.val
  x := fun _ _ => iprop(emp)

instance P_storable : (P (F := F) m G).IsStorable where
  st _ d c := (inferInstance : BI.Storable (upEmb : UEmb _ 𝕄) (stP m G d c.val))
  dn _ d c := (inferInstance : BI.Storable (upEmb : UEmb _ 𝕄) (dnP m G d c.val))
  go _ d c i := (inferInstance : BI.Storable (upEmb : UEmb _ 𝕄) (goP m G d c.val i.val))
  td _ d c i := (inferInstance : BI.Storable (upEmb : UEmb _ 𝕄) (tdP m G d c.val i.val))

/-! ## The tile -/

section Tile

variable (d : Dev nD) (L : grid1.Coords)

/-- A tile works when its number is below sixteen. -/
theorem cond1_iff : ∀ L : grid1.Coords, k1_cond1 L = 1#1 ↔ 2 * (L 1).val + (L 0).val < 16 := by decide +kernel
/-- The task's word is twice the subcore's number plus the core's. -/
theorem wWord_eq : ∀ L : grid1.Coords, wWord L = BitVec.ofNat 32 (2 * (L 1).val + (L 0).val) := by decide +kernel

/-- The cells of the logits that a task's slice names are its block. -/
theorem set_gRowK (h1 : k1_cond1 L = 1#1) : (gRowK L h1).view.set = gS (L 0).val (L 1).val := by
  show ((View.whole (main_v3_scv : Ref sig .scVector)).slice (Rect.unit (s := S65536) (k1_off1 L) S4096.size (k1_off1_inb L h1))).set = _
  rw [View.set_slice_whole]
  ext y
  rw [Rect.mem_set_unit, k1_off1_eq, gS, Finset.mem_filter]
  refine ⟨fun h => ⟨Finset.mem_univ _, ?_⟩, fun h a => ?_⟩
  · have h0 := h 0
    simp at h0
    omega
  · fin_cases a
    have h2 := h.2
    simp
    omega

/-- The cells of the result that a task's slice names are its row. -/
theorem set_oRowK (h1 : k1_cond1 L = 1#1) : (oRowK L h1).view.set = oS (L 0).val (L 1).val := by
  show (((View.whole (main_v4_scv : Ref sig .scVector)).slice (Rect.unit (s := S16x16) (k1_off5 L) S1x16.size (k1_off5_inb L h1))).reshape S16 squeezes_S1x16_S16.numel_eq).set = _
  rw [View.set_reshape, View.set_slice_whole]
  ext y
  rw [Rect.mem_set_unit, k1_off5_eq, oS, Finset.mem_filter]
  refine ⟨fun h => ⟨Finset.mem_univ _, ?_⟩, fun h a => ?_⟩
  · have h0 := h 0
    simp at h0
    omega
  · have h2 := h.2
    have hy : (y 1).val < 16 := (y 1).isLt
    fin_cases a
    · simp; omega
    · simp; exact hy

/-- The fetched row is row `2 i + c` of the logits. -/
theorem read_gRowK (h1 : k1_cond1 L = 1#1) (g : Vec F S65536 .f32) :
    (gRowK L h1).view.read (Elt F) g = rowOf g (2 * (L 1).val + (L 0).val) := by
  funext x
  have hx : (x 0).val < 4096 := (x 0).isLt
  have hw := (cond1_iff L).mp h1
  show g ((Rect.unit (s := S65536) (k1_off1 L) S4096.size (k1_off1_inb L h1)).emb x) = g _
  congr 1
  funext a; fin_cases a
  apply Fin.ext
  show k1_off1 L 0 + 1 * (x 0).val = (4096 * (2 * (L 1).val + (L 0).val) + (x 0).val) % 65536
  rw [k1_off1_eq]
  simp
  omega

/-- Where an index of a task's slice of the result lies in the array. -/
theorem emb_oRowK (h1 : k1_cond1 L = 1#1) (x : S16.Idx) :
    (((oRowK L h1).view.emb x) 0).val = 2 * (L 1).val + (L 0).val ∧ (((oRowK L h1).view.emb x) 1).val = (x 0).val := by
  have he : (oRowK L h1).view.emb x = (Rect.unit (s := S16x16) (k1_off5 L) S1x16.size (k1_off5_inb L h1)).emb (Shape.reshapeEquiv squeezes_S1x16_S16.numel_eq x) := rfl
  have hr : Shape.reshapeEquiv squeezes_S1x16_S16.numel_eq x = (Fin.cons ⟨0, Nat.one_pos⟩ x : S1x16.Idx) := Shape.reshapeEquiv_cons_one _ x
  rw [he, hr]
  constructor
  · show k1_off5 L 0 + 1 * 0 = _
    rw [k1_off5_eq]; simp
  · show k1_off5 L 1 + 1 * (x 0).val = _
    rw [k1_off5_eq]; simp

/-- A task's block of the logits, held through its slice or as cells. -/
theorem pts_gRowK (h1 : k1_cond1 L = 1#1) (f : Buf (Elt F) (gLoc d)) :
    ((gRowK L h1).view.loc (tV d L) ↦[(gRowK L h1).view.set]{fullShare} f : sProp 𝕄) = gLoc d ↦[gS (L 0).val (L 1).val]{fullShare} f := by
  rw [set_gRowK]
/-- A task's row of the result, held through its slice or as cells. -/
theorem pts_oRowK (h1 : k1_cond1 L = 1#1) (f : Buf (Elt F) (oLoc d)) :
    ((oRowK L h1).view.loc (tV d L) ↦[(oRowK L h1).view.set]{fullShare} f : sProp 𝕄) = oLoc d ↦[oS (L 0).val (L 1).val]{fullShare} f := by
  rw [set_oRowK]

/-- What the task left in its row is the result's row. -/
theorem pts_result (h1 : k1_cond1 L = 1#1) (g : Vec F S65536 .f32) (n : IVec S16 32) (f : Buf (Elt F) (oLoc d))
    (hf : (oRowK L h1).view.read (Elt F) f = taskVal (wWord L) n ((gRowK L h1).view.read (Elt F) g)) :
    ((oRowK L h1).view.loc (tV d L) ↦[(oRowK L h1).view.set]{fullShare} f : sProp 𝕄) = oLoc d ↦[oS (L 0).val (L 1).val]{fullShare} resO g n := by
  rw [← pts_oRowK d L h1]
  refine pointsTo_congr fun y hy => ?_
  obtain ⟨x, -, rfl⟩ := Finset.mem_map.mp hy
  have e := congrFun hf x
  refine Eq.trans (show f ((oRowK L h1).view.emb x) = _ from e) ?_
  unfold resO
  rw [(emb_oRowK L h1 x).1, (emb_oRowK L h1 x).2, wWord_eq, read_gRowK, ln_val]

/-- A tile's semaphores at zero: the three it uses and the rest. -/
theorem ownSems0_V :
    (ownSems0 (tV d L) : sProp 𝕄)
      = iprop(semVal (cAcell d L) 0 ∗ semVal (cBcell d L) 0 ∗ semVal (cCcell d L) 0
          ∗ bigSep ((((ownCells (tV d L)).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc1_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc1_scoped2.sem : SemLoc sig).isScoped .scVector = true; decide⟩⟩⟩)]

/-- The tile's own buffers are the five scratches, each at some contents, together with the rest. -/
theorem ownBufs_V :
    (ownBufs (tV d L) : sProp 𝕄)
      = iprop((∃ f, (tV d L).loc cc1_scratch0 ↦{fullShare} f) ∗ (∃ f, (tV d L).loc cc1_scratch1 ↦{fullShare} f) ∗ (∃ f, (tV d L).loc cc1_scratch2 ↦{fullShare} f) ∗ (∃ f, (tV d L).loc cc1_scratch3 ↦{fullShare} f) ∗ (∃ f, (tV d L).loc cc1_scratch4 ↦{fullShare} f)
          ∗ bigSep ((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)) fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := (Proc.scVector (cV L) (jV L))) (b := (Proc.scVector (cV L) (jV L)).devRef cc1_scratch1) rfl⟩), SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := (Proc.scVector (cV L) (jV L))) (b := (Proc.scVector (cV L) (jV L)).devRef cc1_scratch2) rfl⟩⟩), SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := (Proc.scVector (cV L) (jV L))) (b := (Proc.scVector (cV L) (jV L)).devRef cc1_scratch3) rfl⟩⟩⟩), SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := (Proc.scVector (cV L) (jV L))) (b := (Proc.scVector (cV L) (jV L)).devRef cc1_scratch4) rfl⟩⟩⟩⟩)]

/-- The task of tile `(c, i)`: from its row of the logits, its share of the lengths and its row of the result, to the
    same with the result's row written. A tile whose row number is 16 or more does nothing. -/
theorem tile_body (hF : (K (F := F)).Facts) (O : CellTallies nD τ sig (HIx 1)) (W : Waits sig (HIx 1)) (hO : ∀ g, O g none = 0) :
    iprop(levAts (K (F := F)).L (K (F := F)).lev ∗ emp ∗ goP m G d (L 0).val (L 1).val
        ∗ scopedBufs (tV d L) ∗ scopedSems0 (tV d L) ∗ owes (tV d L) O W)
      ⊢ wp frame (wpE (defs₀ (F := F)) 𝒱₀ (tV d L) none) Set.univ
          (cc1__sc_topk_kernel L gV (Memref.isWhole_whole _) nV (Memref.isWhole_whole _) oV (Memref.isWhole_whole _)
            rV (Memref.isWhole_whole _) lV (Memref.isWhole_whole _) eV (Memref.isWhole_whole _) fV (Memref.isWhole_whole _) iV (Memref.isWhole_whole _)
            cc1_scratch5 cc1_scoped0 cc1_scoped1 cc1_scoped2)
          fun _ => iprop(tdP m G d (L 0).val (L 1).val
            ∗ scopedBufs (tV d L) ∗ scopedSems0 (tV d L)
            ∗ ∃ W', ⌜∀ p ∈ W', p ∈ W ∨ p.2 = none ∨ p.2 = some (0 : Fin 1)⌝ ∗ owes (tV d L) O W') := by
  have hW : ∀ W' : Waits sig (HIx 1), ∀ p ∈ W', p ∈ W ∨ p.2 = none ∨ p.2 = some (0 : Fin 1) := by
    intro W' p _
    rcases p.2 with _ | q
    · exact .inr (.inl rfl)
    · exact .inr (.inr (congrArg some (Subsingleton.elim q 0)))
  rcases Classical.em (k1_cond1 L = 1#1) with h1 | h1
  · rw [(K (F := F)).scopedBufs_V hF d (cV L) (jV L), SparseCore.Cfg.scopedSems0_V (Val := Elt F) d (cV L) (jV L), ownSems0_V, ownBufs_V]
    iintro ⟨#Hlv, -, ⟨Hg, Hn, Ho⟩, ⟨⟨%fr, Hr⟩, ⟨%fl, Hl⟩, ⟨%fe, He⟩, ⟨%ff, Hf⟩, ⟨%fi, Hi⟩, Hbufs⟩, ⟨HA, HB, HC, Hsems⟩, HO⟩
    ihave Hmw := (show levAts (K (F := F)).L (K (F := F)).lev ⊢ Transfers.MayWaits (tV d L) (default : HIx 1) O from
      (K (F := F)).mayWaits_none (thr := tV d L) hO) $$ Hlv
    ihave Hg' := (Entails.of_eq (pts_gRowK (F := F) d L h1 _).symm) $$ Hg
    ihave Ho' := (Entails.of_eq (pts_oRowK (F := F) d L h1 _).symm) $$ Ho
    iapply (wp_wand_r Idealize.ShloMosaic.frame (wpE (defs₀ (F := F)) 𝒱₀ (tV d L) none) Set.univ)
    isplitl [Hg' Hn Ho' Hr Hl He Hf Hi HA HB HC HO]
    · iapply (tile_run d L h1 O W (qS (L 0).val (L 1).val) (G d) (m (nLoc d)) (m (oLoc d)) fr fl fe ff fi)
      isplitr; · iexact Hmw
      isplitl [Hg']; · iexact Hg'
      isplitl [Hn]; · iexact Hn
      isplitl [Ho']; · iexact Ho'
      isplitl [Hr]; · iexact Hr
      isplitl [Hl]; · iexact Hl
      isplitl [He]; · iexact He
      isplitl [Hf]; · iexact Hf
      isplitl [Hi]; · iexact Hi
      isplitl [HA]; · iexact HA
      isplitl [HB]; · iexact HB
      isplitl [HC]; · iexact HC
      iexact HO
    iintro %u ⟨Hg, Hn, ⟨%fO, %hfO, Ho⟩, Hr, Hl, He, Hf, Hi, HA, HB, HC, ⟨%W', HO⟩⟩
    isplitl [Hg Hn Ho]
    · isplitl [Hg]; · iapply (Entails.of_eq (pts_gRowK (F := F) d L h1 _)); iexact Hg
      isplitl [Hn]; · iexact Hn
      iapply (Entails.of_eq (pts_result (F := F) d L h1 (G d) (m (nLoc d)) fO hfO)); iexact Ho
    isplitl [Hr Hl He Hf Hi Hbufs]
    · isplitl [Hr]; · iexact Hr
      isplitl [Hl]; · iexact Hl
      isplitl [He]; · iexact He
      isplitl [Hf]; · iexact Hf
      isplitl [Hi]; · iexact Hi
      iexact Hbufs
    isplitl [HA HB HC Hsems]
    · isplitl [HA]; · iexact HA
      isplitl [HB]; · iexact HB
      isplitl [HC]; · iexact HC
      iexact Hsems
    iexists W'; isplitr
    · ipureintro; exact hW W'
    iexact HO
  · have hS : oS (L 0).val (L 1).val = ∅ := by
      rw [oS, Finset.filter_eq_empty_iff]
      intro y _ hy
      have hy' : (y 0).val < 16 := (y 0).isLt
      exact h1 ((cond1_iff L).mpr (by omega))
    iintro ⟨#Hlv, -, ⟨Hg, Hn, Ho⟩, Hbufs, Hsems, HO⟩
    sl_unfold [cc1__sc_topk_kernel]
    sl_exec (disch := sl_exact h1)
    sl_step
    isplitl [Hg Hn Ho]
    · isplitl [Hg]; · iexact Hg
      isplitl [Hn]; · iexact Hn
      iapply (Entails.of_eq (pointsTo_congr (Val := Elt F) (f := m (oLoc d)) (g := resO (G d) (m (nLoc d))) (ℓ := oLoc d) (I := oS (L 0).val (L 1).val)
        (fun y hy => absurd (hS ▸ hy) (Finset.notMem_empty y)))); iexact Ho
    isplitl [Hbufs]; · iexact Hbufs
    isplitl [Hsems]; · iexact Hsems
    iexists W; isplitr
    · ipureintro; exact hW W
    iexact HO

def coordsV (c : Fin (grid1.bound 0)) (s : Fin (grid1.bound 1)) : grid1.Coords :=
  fun | 0 => c | 1 => s | ⟨_ + 2, h⟩ => absurd h (Nat.not_lt.2 (Nat.le_add_left _ _))

/-- The body that a vector subcore runs. -/
theorem defs₀_vector (c : Fin τ.nSC) (s : Fin τ.nSub) :
    defs₀ (F := F) (.scVector c s) 1 ()
      = SparseCore.onTile hcore1 hsub1 (fun c s => cc1__sc_topk_kernel (coordsV c s)
          gV (Memref.isWhole_whole _) nV (Memref.isWhole_whole _) oV (Memref.isWhole_whole _)
          rV (Memref.isWhole_whole _) lV (Memref.isWhole_whole _) eV (Memref.isWhole_whole _) fV (Memref.isWhole_whole _) iV (Memref.isWhole_whole _)
          cc1_scratch5 cc1_scoped0 cc1_scoped1 cc1_scoped2) ⟨⟩ c s := rfl

/-- Every tile's obligation in the call. -/
theorem tileObl (hF : (K (F := F)).Facts) : (K (F := F)).TileObl (D (F := F)) 𝒱 (P m G) v₀ 0 := by
  intro d c i O W hO _ _
  simp only [show (P m G).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m G d (coordsV ⟨_, hci.1⟩ ⟨_, hci.2⟩) hF O W hO

end Tile

/-! ## The operands split into the tiles' shares -/

/-- Two tiles of one core have disjoint blocks of the logits, -/
theorem gS_disjoint (c : ℕ) : ∀ i ∈ (Finset.univ : Finset (Fin 16)), ∀ j ∈ (Finset.univ : Finset (Fin 16)), i ≠ j → Disjoint (gS c i.val) (gS c j.val) :=
  fun i _ j _ h => Finset.disjoint_left.mpr fun y hi hj => h (Fin.ext (by
    have h1 := (Finset.mem_filter.mp hi).2; have h2 := (Finset.mem_filter.mp hj).2; omega))
/-- and disjoint rows of the result. -/
theorem oS_disjoint (c : ℕ) : ∀ i ∈ (Finset.univ : Finset (Fin 16)), ∀ j ∈ (Finset.univ : Finset (Fin 16)), i ≠ j → Disjoint (oS c i.val) (oS c j.val) :=
  fun i _ j _ h => Finset.disjoint_left.mpr fun y hi hj => h (Fin.ext (by
    have h1 := (Finset.mem_filter.mp hi).2; have h2 := (Finset.mem_filter.mp hj).2; omega))
/-- The two cores' shares of the logits are disjoint, -/
theorem gC_disjoint : ∀ i ∈ (Finset.univ : Finset (Fin 2)), ∀ j ∈ (Finset.univ : Finset (Fin 2)), i ≠ j → Disjoint (gC i.val) (gC j.val) :=
  fun i _ j _ h => Finset.disjoint_left.mpr fun y hi hj => h (Fin.ext (by
    have h1 := (Finset.mem_filter.mp hi).2; have h2 := (Finset.mem_filter.mp hj).2; omega))
/-- and so are their shares of the result. -/
theorem oC_disjoint : ∀ i ∈ (Finset.univ : Finset (Fin 2)), ∀ j ∈ (Finset.univ : Finset (Fin 2)), i ≠ j → Disjoint (oC i.val) (oC j.val) :=
  fun i _ j _ h => Finset.disjoint_left.mpr fun y hi hj => h (Fin.ext (by
    have h1 := (Finset.mem_filter.mp hi).2; have h2 := (Finset.mem_filter.mp hj).2; omega))

/-- A core's share of the logits is its tiles' blocks, -/
theorem gS_cover {c : ℕ} (hc : c < 2) : (Finset.univ : Finset (Fin 16)).biUnion (fun i => gS c i.val) = gC c := by
  ext y
  have hy : (y 0).val < 65536 := (y 0).isLt
  simp only [Finset.mem_biUnion, gS, gC, Finset.mem_filter, Finset.mem_univ, true_and]
  exact ⟨fun ⟨i, h⟩ => by omega, fun h => ⟨⟨(y 0).val / 4096 / 2, by omega⟩, by show _ = 2 * ((y 0).val / 4096 / 2) + c; omega⟩⟩
/-- its share of the result is its tiles' rows, -/
theorem oS_cover {c : ℕ} (hc : c < 2) : (Finset.univ : Finset (Fin 16)).biUnion (fun i => oS c i.val) = oC c := by
  ext y
  have hy : (y 0).val < 16 := (y 0).isLt
  simp only [Finset.mem_biUnion, oS, oC, Finset.mem_filter, Finset.mem_univ, true_and]
  exact ⟨fun ⟨i, h⟩ => by omega, fun h => ⟨⟨(y 0).val / 2, by omega⟩, by show _ = 2 * ((y 0).val / 2) + c; omega⟩⟩
/-- the logits are the two cores' shares, -/
theorem gC_cover : (Finset.univ : Finset (Fin 2)).biUnion (fun c => gC c.val) = Finset.univ := by
  ext y
  simp only [Finset.mem_biUnion, gC, Finset.mem_filter, Finset.mem_univ, true_and, iff_true]
  exact ⟨⟨(y 0).val / 4096 % 2, by omega⟩, rfl⟩
/-- and so is the result. -/
theorem oC_cover : (Finset.univ : Finset (Fin 2)).biUnion (fun c => oC c.val) = Finset.univ := by
  ext y
  simp only [Finset.mem_biUnion, oC, Finset.mem_filter, Finset.mem_univ, true_and, iff_true]
  exact ⟨⟨(y 0).val % 2, by omega⟩, rfl⟩

/-- A core's share of the logits splits among its tiles, -/
theorem g_tiles (d : Dev nD) {c : ℕ} (hc : c < 2) (f : Buf (Elt F) (gLoc d)) :
    (gLoc d ↦[gC c]{fullShare} f : sProp 𝕄) = bigSep Finset.univ fun i : Fin 16 => gLoc d ↦[gS c i.val]{fullShare} f := by
  rw [← pointsTo_biUnion Finset.univ (ℓ := gLoc d) (fun i : Fin 16 => gS c i.val) (gS_disjoint c), gS_cover hc]
/-- as does its share of the result; -/
theorem o_tiles (d : Dev nD) {c : ℕ} (hc : c < 2) (f : Buf (Elt F) (oLoc d)) :
    (oLoc d ↦[oC c]{fullShare} f : sProp 𝕄) = bigSep Finset.univ fun i : Fin 16 => oLoc d ↦[oS c i.val]{fullShare} f := by
  rw [← pointsTo_biUnion Finset.univ (ℓ := oLoc d) (fun i : Fin 16 => oS c i.val) (oS_disjoint c), oS_cover hc]
/-- the logits split between the cores, -/
theorem g_cores (d : Dev nD) (f : Buf (Elt F) (gLoc d)) :
    (gLoc d ↦{fullShare} f : sProp 𝕄) = bigSep Finset.univ fun c : Fin 2 => gLoc d ↦[gC c.val]{fullShare} f := by
  rw [← pointsTo_biUnion Finset.univ (ℓ := gLoc d) (fun c : Fin 2 => gC c.val) gC_disjoint, gC_cover]; try rfl
/-- as does the result. -/
theorem o_cores (d : Dev nD) (f : Buf (Elt F) (oLoc d)) :
    (oLoc d ↦{fullShare} f : sProp 𝕄) = bigSep Finset.univ fun c : Fin 2 => oLoc d ↦[oC c.val]{fullShare} f := by
  rw [← pointsTo_biUnion Finset.univ (ℓ := oLoc d) (fun c : Fin 2 => oC c.val) oC_disjoint, oC_cover]; try rfl

/-- A SparseCore's share of the operands is its tiles' shares; the results' gather likewise. -/
theorem vecSplit : (K (F := F)).VecSplit' (P m G) 0 := by
  intro d c
  have hc : c.val < 2 := c.isLt
  show stP m G d c.val ⊢ |={Set.univ}=> iprop((bigSep Finset.univ fun i : Fin 16 => goP m G d c.val i.val)
    ∗ ((bigSep Finset.univ fun i : Fin 16 => tdP m G d c.val i.val) -∗ dnP m G d c.val))
  rw [bigSep_sep', bigSep_sep', bigSep_sep', bigSep_sep', ← g_tiles d hc, ← o_tiles d hc, ← o_tiles d hc]
  iintro ⟨Hg, Hn, Ho⟩
  ihave Hn' := (Transfers.pointsTo_toks_split (qC c.val) 16) $$ Hn
  icases Hn' with ⟨Hd, Hn⟩
  imodintro
  isplitl [Hg Hn Ho]
  · isplitl [Hg]; · iexact Hg
    isplitl [Hn]; · iexact Hn
    iexact Ho
  iintro ⟨Hg, Hn, Ho⟩
  isplitl [Hg]; · iexact Hg
  isplitl [Hd Hn]
  · iapply (Transfers.pointsTo_toks_join (qC c.val) 16)
    isplitl [Hd]; · iexact Hd
    iexact Hn
  iexact Ho

/-- The call's operands whole, and the remainder of the lengths' read shares, against the two SparseCores' shares. -/
theorem cores_split (d : Dev nD) :
    (iprop((gLoc d ↦{fullShare} G d) ∗ (nLoc d ↦{fullShare} m (nLoc d)) ∗ (oLoc d ↦{fullShare} m (oLoc d))) : sProp 𝕄)
      ⊢ iprop((bigSep Finset.univ fun c : Fin ((K (F := F)).nCore 0) => (P m G).st 0 d c) ∗ (nLoc d ↦{Transfers.shareDrop fullShare 2} m (nLoc d))) := by
  show _ ⊢ iprop((bigSep Finset.univ fun c : Fin 2 => stP m G d c.val) ∗ _)
  rw [bigSep_sep', bigSep_sep', ← g_cores d, ← o_cores d]
  iintro ⟨Hg, Hn, Ho⟩
  ihave Hn' := (Transfers.pointsTo_toks_split fullShare 2) $$ Hn
  icases Hn' with ⟨Hd, Hn⟩
  isplitr [Hd]
  · isplitl [Hg]; · iexact Hg
    isplitl [Hn]; · iexact Hn
    iexact Ho
  iexact Hd
/-- What the cores hand back joins to the three whole arrays. -/
theorem cores_join (d : Dev nD) :
    (iprop((bigSep Finset.univ fun c : Fin ((K (F := F)).nCore 0) => (P m G).dn 0 d c) ∗ (nLoc d ↦{Transfers.shareDrop fullShare 2} m (nLoc d))) : sProp 𝕄)
      ⊢ iprop((gLoc d ↦{fullShare} G d) ∗ (nLoc d ↦{fullShare} m (nLoc d)) ∗ (oLoc d ↦{fullShare} resO (G d) (m (nLoc d)))) := by
  show iprop((bigSep Finset.univ fun c : Fin 2 => dnP m G d c.val) ∗ _) ⊢ _
  rw [bigSep_sep', bigSep_sep', ← g_cores d, ← o_cores d]
  iintro ⟨⟨Hg, Hn, Ho⟩, Hd⟩
  isplitl [Hg]; · iexact Hg
  isplitl [Hd Hn]
  · iapply (Transfers.pointsTo_toks_join fullShare 2)
    isplitl [Hd]; · iexact Hd
    iexact Hn
  iexact Ho

end Cert.Proof.KernelIdeal

end
-- ==== Proof.KernelIdeal.Launch.lean ====
/-
  The idealized kernel's run: the launch's ghost element, @main on the TensorCore (three reshapes, the TensorCore call's
  region, the SparseCore call, a slice and a reshape) and the run of the whole program, its result named.
-/
module

public import proofs.«01_k».proof.Proof.KernelIdeal.Tc
public import proofs.«01_k».proof.Proof.KernelIdeal.Call

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents through @main -/

/-- The buffers at launch, -/
def W0 (d : Dev nD) : Valuation τ sig (Elt F) := fun b => m (d, b)
/-- after the three reshapes, -/
def W1 (d : Dev nD) : Valuation τ sig (Elt F) :=
  (StableHlo.reshape (τ := τ) main_arg7 main_v2 (rfl : (.f32 : EltTy) = .f32) shapeCasts_S1_S1x1).result
    ((StableHlo.reshape (τ := τ) main_arg5 main_v1 (rfl : (.f32 : EltTy) = .f32) shapeCasts_S32_S1x32).result
      ((StableHlo.reshape (τ := τ) main_arg3 main_v0 (rfl : (.f32 : EltTy) = .f32) shapeCasts_S512_S1x512).result (W0 m d)))
/-- after the TensorCore call, -/
def W2 (d : Dev nD) : Valuation τ sig (Elt F) := W' (W1 m) d
/-- The logits the TensorCore call leaves. -/
def G (d : Dev nD) : Buf (Elt F) (gLoc d) := W2 m d (Proc.devRef .tc main_v3)
/-- after the SparseCore call, -/
def W3 (d : Dev nD) : Valuation τ sig (Elt F) :=
  Function.update (W2 m d) (Proc.devRef .tc main_v4) (resO (G m d) (m (nLoc d)))
/-- and at the return. -/
def W5 (d : Dev nD) : Valuation τ sig (Elt F) :=
  (StableHlo.reshape (τ := τ) main_v5 main_v6 (rfl : (.f32 : EltTy) = .f32) shapeCasts_S16x1_S16).result
    ((StableHlo.unary (τ := τ) main_v4 main_v5 ((extractStridedSlice S16x1 ![0,0] · slices_S16x16_S16x1_0_0) : (⟨S16x16, .f32⟩ : BufTy).Contents (Elt F) → (⟨S16x1, .f32⟩ : BufTy).Contents (Elt F))).result (W3 m d))

/-- A buffer that no reshape writes is as launched after the three, -/
theorem W1_arg (d : Dev nD) (r : Ref sig .tc) (h0 : r ≠ main_v0) (h1 : r ≠ main_v1) (h2 : r ≠ main_v2) :
    W1 m d (Proc.devRef .tc r) = m ((SparseCore.T d).loc r) := by
  unfold W1
  rw [HloOp.result_of_not_mem, HloOp.result_of_not_mem, HloOp.result_of_not_mem]
  · rfl
  all_goals
    intro h
    have := Finset.mem_singleton.mp h
    exact absurd (Proc.devRef_injective _ this) (by assumption)

/-- and after the TensorCore call too if it is none of its results. -/
theorem W2_arg (d : Dev nD) (r : Ref sig .tc) (h0 : r ≠ main_v0) (h1 : r ≠ main_v1) (h2 : r ≠ main_v2)
    (h : ∀ w : Fin cfg0.W, Pipeline.arrRef spec0 w = r → (cfg0.win w).isOut = false) :
    W2 m d (Proc.devRef .tc r) = m ((SparseCore.T d).loc r) :=
  (W'_of (W1 m) d r h).trans (W1_arg m d r h0 h1 h2)

/-- A reference @main never writes reads as launched at the return. -/
theorem W5_arg (d : Dev nD) (r : Ref sig .tc) (h0 : r ≠ main_v0) (h1 : r ≠ main_v1) (h2 : r ≠ main_v2)
    (h : ∀ w : Fin cfg0.W, Pipeline.arrRef spec0 w = r → (cfg0.win w).isOut = false) (h4 : r ≠ main_v4) (h5 : r ≠ main_v5) (h6 : r ≠ main_v6) :
    W5 m d (Proc.devRef .tc r) = m ((SparseCore.T d).loc r) := by
  unfold W5
  rw [HloOp.result_of_not_mem, HloOp.result_of_not_mem]
  · unfold W3
    rw [Function.update_of_ne (fun e => h4 (Proc.devRef_injective _ e))]
    exact W2_arg m d r h0 h1 h2 h
  all_goals
    intro h
    have := Finset.mem_singleton.mp h
    exact absurd (Proc.devRef_injective _ this) (by assumption)

/-! ## The launch element: the handshakes' rounds, and the pipeline's -/

abbrev EP : Emb UP (MT nD τ sig (HIx 1) (Elt F) ℕ UU ℕ) := (Emb.inl : Emb UP (UP × Counters)).trans embR

instance : (EP (F := F)).LandsIn (upEmb : UEmb _ 𝕄) := by unfold EP embR; infer_instance

/-- The pipeline's cells are pairwise distinct. -/
theorem phinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What the launch hands each device beyond the handshakes: the pipeline's cells' ghost state and duty tokens. -/
abbrev Gh (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
/-- A product of nothing is nothing. -/
theorem emps {I : Type} (s : Finset I) : (bigSep s fun _ => iprop(emp)) = (iprop(emp) : sProp 𝕄) := bigSep_emp_const s

/-- The launch element splits into the handshakes' state and each device's ghost state. -/
theorem hu₀ : (ownU (u₀ (F := F)) : sProp 𝕄)
    ⊢ |={Set.univ}=> iprop(BI.own (EH (initOf (K (F := F)).hsCells (K (F := F)).hsToks)) ∗ (bigSep Finset.univ fun d : Dev nD => Gh d)
        ∗ bigSep Finset.univ fun thr : Thread nD τ => bigSep Finset.univ fun q : Fin 1 => (P m (G m)).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost (Pipeline.pin (pcfgs (F := F)) adm) EP phinj) $$ HP with ⟨Hg, Ht⟩
  imodintro
  isplitl [HH]; · iexact HH
  isplitl [Hg Ht]
  · rw [bigSep_sep']
    isplitl [Hg]
    · rw [show (bigSep Finset.univ fun c : Dev nD => Pipeline.cellsGhost (Pipeline.pin (pcfgs (F := F)) adm) (EP (F := F)) 0 c)
        = bigSep Finset.univ fun c : Dev nD => bigSep Finset.univ fun p : Fin 1 => Pipeline.cellsGhost (Pipeline.pin (pcfgs (F := F)) adm) (EP (F := F)) p c from
        bigSep_congr fun c _ => (bigSep_univ_of_subsingleton (Φ := fun p : Fin 1 => Pipeline.cellsGhost (Pipeline.pin (pcfgs (F := F)) adm) (EP (F := F)) p c) (0 : Fin 1)).symm]
      iexact Hg
    · rw [show (bigSep Finset.univ fun c : Dev nD => Pipeline.toksInit (Pipeline.pin (pcfgs (F := F)) adm) (EP (F := F)) 0 c)
        = bigSep Finset.univ fun c : Dev nD => bigSep Finset.univ fun p : Fin 1 => Pipeline.toksInit (Pipeline.pin (pcfgs (F := F)) adm) (EP (F := F)) p c from
        bigSep_congr fun c _ => (bigSep_univ_of_subsingleton (Φ := fun p : Fin 1 => Pipeline.toksInit (Pipeline.pin (pcfgs (F := F)) adm) (EP (F := F)) p c) (0 : Fin 1)).symm]
      iexact Ht
  rw [show (bigSep Finset.univ fun thr : Thread nD τ => bigSep Finset.univ fun q : Fin 1 => (P (F := F) m (G m)).x q thr) = bigSep Finset.univ fun _ => (iprop(emp) : sProp 𝕄) from
    bigSep_congr fun _ _ => bigSep_univ_of_subsingleton (0 : Fin 1), emps]
  iempintro

/-! ## @main on the TensorCore -/

set_option backward.isDefEq.respectTransparency.types false in
/-- The TensorCore call: from the boundary and the region's entry state to the boundary and its exit state. -/
theorem region_step (d : Dev nD) (Φ : PUnit → sProp 𝕄) :
    iprop((iprop(boundary (d.tc : Thread nD τ) ∗ StableHlo.held (d.tc : Thread nD τ) (Pipeline.ucRefs τ sig) (W2 m d) ∗ R d) -∗ Φ ⟨⟩)
        ∗ boundary (d.tc : Thread nD τ) ∗ (StableHlo.held (d.tc : Thread nD τ) (Pipeline.ucRefs τ sig) (W1 m d) ∗ R d) ∗ levAts (K (F := F)).L (K (F := F)).lev ∗ Gh d)
      ⊢ wp frame (wpE ((K (F := F)).defs (D (F := F))) 𝒱 (SparseCore.T d) none) Set.univ
          (Prog.lift (.customCall (SparseCore.inner (Pipeline.entry 0)) ())) Φ := by
  have h1 := (K (F := F)).wp_liftProg (Name := ℕ) (U := UU) (D (F := F)) 𝒱 (SparseCore.T d) Set.univ none (.op (.customCall (Pipeline.entry 0) ()) .ret) Φ
  have h2 := Pipeline.RegionSeg.wp (pcfgs (F := F)) adm (pdats (W1 m)) none phinj EP defs₀ 𝒱₀ (K (F := F)).L (K (F := F)).lev (reg0 (W1 m)) d none
    (fun u hu => by simp at hu) .ret Φ
  refine BIBase.Entails.trans ?_ (h2.trans h1)
  have hpre : (reg0 (W1 m)).pre d = iprop(StableHlo.held (d.tc : Thread nD τ) (Pipeline.ucRefs τ sig) (W1 m d) ∗ R d) := rfl
  have hpost : (reg0 (W1 m)).post d = iprop(StableHlo.held (d.tc : Thread nD τ) (Pipeline.ucRefs τ sig) (W2 m d) ∗ R d) := rfl
  rw [hpre, hpost]
  iintro ⟨Hk, Hb, Hp, Hl, Hg, Ht⟩
  isplitl [Hk]
  · iintro H
    rw [wp_ret]
    imodintro
    iapply Hk; iexact H
  isplitl [Hb]; · iexact Hb
  isplitl [Hp]; · iexact Hp
  isplitl [Hl]; · iexact Hl
  isplitl [Hg] <;> iassumption

/-- What @main leaves on each device: every unscoped buffer at the return's contents. -/
abbrev FIN (d : Dev nD) : sProp 𝕄 := StableHlo.held (d.tc : Thread nD τ) (Pipeline.ucRefs τ sig) (W5 m d)

/-- The SparseCore call's three arrays. -/
def tri : Finset (DevRef τ sig) := {Proc.devRef .tc main_v3, Proc.devRef .tc main_arg1, Proc.devRef .tc main_v4}

/-- The SparseCore call's three arrays are among the unscoped buffers. -/
theorem tri_sub : tri ⊆ Pipeline.ucRefs τ sig := by decide

/-- The three arrays held together are the three held one by one. -/
theorem held_tri (d : Dev nD) (W : Valuation τ sig (Elt F)) :
    (StableHlo.held (d.tc : Thread nD τ) tri W : sProp 𝕄)
      = iprop((gLoc d ↦{fullShare} W (Proc.devRef .tc main_v3)) ∗ (nLoc d ↦{fullShare} W (Proc.devRef .tc main_arg1)) ∗ (oLoc d ↦{fullShare} W (Proc.devRef .tc main_v4))) := by
  unfold StableHlo.held tri
  rw [SparseCore.bigSep_insert' (by decide), SparseCore.bigSep_insert' (by decide), bigSep_singleton]

/-- The lengths are as launched when the SparseCore call begins, -/
theorem W2_n (d : Dev nD) : W2 m d (Proc.devRef .tc main_arg1) = m (nLoc d) :=
  W2_arg m d main_arg1 (by decide) (by decide) (by decide) (by decide)

/-- and so is its result array. -/
theorem W2_o (d : Dev nD) : W2 m d (Proc.devRef .tc main_v4) = m (oLoc d) :=
  W2_arg m d main_v4 (by decide) (by decide) (by decide) (by decide)

/-- The SparseCore call's result array after the call. -/
theorem W3_o (d : Dev nD) : W3 m d (Proc.devRef .tc main_v4) = resO (G m d) (m (nLoc d)) := by
  unfold W3; exact Function.update_self _ _ _

/-- Every other buffer is as it was before it. -/
theorem W3_of (d : Dev nD) (b : DevRef τ sig) (h : b ≠ Proc.devRef .tc main_v4) : W3 m d b = W2 m d b := by
  unfold W3; exact Function.update_of_ne h _ _

/-- The buffers before the SparseCore call, its three arrays taken out, -/
theorem held_out (d : Dev nD) :
    (StableHlo.held (d.tc : Thread nD τ) (Pipeline.ucRefs τ sig) (W2 m d) : sProp 𝕄)
      = iprop(((gLoc d ↦{fullShare} G m d) ∗ (nLoc d ↦{fullShare} m (nLoc d)) ∗ (oLoc d ↦{fullShare} m (oLoc d)))
          ∗ StableHlo.held (d.tc : Thread nD τ) (Pipeline.ucRefs τ sig \ tri) (W2 m d)) := by
  rw [StableHlo.held_sub_split d.tc tri_sub, held_tri, W2_n, W2_o]; rfl

/-- and after it, the three put back. -/
theorem held_in (d : Dev nD) :
    (iprop(((gLoc d ↦{fullShare} G m d) ∗ (nLoc d ↦{fullShare} m (nLoc d)) ∗ (oLoc d ↦{fullShare} resO (G m d) (m (nLoc d))))
          ∗ StableHlo.held (d.tc : Thread nD τ) (Pipeline.ucRefs τ sig \ tri) (W2 m d)) : sProp 𝕄)
      = StableHlo.held (d.tc : Thread nD τ) (Pipeline.ucRefs τ sig) (W3 m d) := by
  rw [StableHlo.held_sub_split d.tc tri_sub (W3 m d), held_tri, W3_o, W3_of _ _ _ (by decide), W3_of _ _ _ (by decide), W2_n]
  rw [StableHlo.held_congr d.tc fun b hb => (W3_of m d b fun e => (Finset.mem_sdiff.mp hb).2 (by subst e; decide)).symm]
  rfl

/-- What the TensorCore holds of the handshakes before the call, beside what it owes. -/
def stRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

/-- The TensorCore's state before its first handshake. -/
theorem tcSt_zero (d : Dev nD) : (K (F := F)).tcSt EH d 0
    = (iprop((∃ W, ⌜(K (F := F)).WBelow (SparseCore.T d) W 0⌝ ∗ owes (SparseCore.T d) ((K (F := F)).Otc d 0) W) ∗ stRest d) : sProp 𝕄) := rfl

/-- @main, from its entry state and the ghost state of its device's pipeline. -/
theorem hmain (κ : GSem nD τ sig → ℕ) (d : Dev nD) :
    iprop((K (F := F)).ctx EH (P m (G m)) κ ∗ (K (F := F)).tcSt EH d 0 ∗ (K (F := F)).tcRes m ρ d ∗ Gh d)
      ⊢ wp frame (wpE ((K (F := F)).defs (D (F := F))) 𝒱 (SparseCore.T d) none) Set.univ (main d) fun _ =>
          iprop((K (F := F)).tcSt EH d 1 ∗ FIN m d ∗ (K (F := F)).tcEnd d) := by
  unfold SparseCore.Cfg.tcRes SparseCore.Cfg.tcEnd
  have e0 : (unscopedBufs d (fun b => m ((SparseCore.T d).loc b)) : sProp 𝕄) = StableHlo.held (SparseCore.T d) (Pipeline.ucRefs τ sig) (W0 m d) :=
    Pipeline.unscopedBufs_held d (W0 m d)
  rw [e0]
  simp only [main, wp_bind, wp_pure]
  iintro ⟨#Hctx, Hst, ⟨Hb, Hub, Hts, Hp⟩, HG⟩
  ihave Hlev := ((K (F := F)).ctx_levAts κ) $$ Hctx
  iapply (StableHlo.wp_hlo_within 𝒱 (SparseCore.T d) none Set.univ (op := StableHlo.reshape (τ := τ) main_arg3 main_v0 (rfl : (.f32 : EltTy) = .f32) shapeCasts_S512_S1x512) (S := Pipeline.ucRefs τ sig)
    (Pipeline.sub_ucRefs _ (StableHlo.reshape_bufs_sub ..))) $$ [Hb Hub]
  · isplitl [Hb] <;> iassumption
  iintro ⟨Hb, Hub⟩
  rw [wp_ret]; imodintro
  iapply (StableHlo.wp_hlo_within 𝒱 (SparseCore.T d) none Set.univ (op := StableHlo.reshape (τ := τ) main_arg5 main_v1 (rfl : (.f32 : EltTy) = .f32) shapeCasts_S32_S1x32) (S := Pipeline.ucRefs τ sig)
    (Pipeline.sub_ucRefs _ (StableHlo.reshape_bufs_sub ..))) $$ [Hb Hub]
  · isplitl [Hb] <;> iassumption
  iintro ⟨Hb, Hub⟩
  rw [wp_ret]; imodintro
  iapply (StableHlo.wp_hlo_within 𝒱 (SparseCore.T d) none Set.univ (op := StableHlo.reshape (τ := τ) main_arg7 main_v2 (rfl : (.f32 : EltTy) = .f32) shapeCasts_S1_S1x1) (S := Pipeline.ucRefs τ sig)
    (Pipeline.sub_ucRefs _ (StableHlo.reshape_bufs_sub ..))) $$ [Hb Hub]
  · isplitl [Hb] <;> iassumption
  iintro ⟨Hb, Hub⟩
  rw [wp_ret]; imodintro
  ihave Hst := (Entails.of_eq (tcSt_zero d)) $$ Hst
  icases Hst with ⟨⟨%Wd, %hWd, HO⟩, Hst⟩
  iapply (region_step m d)
  isplitr [Hb Hub Hp HO HG]
  rotate_left
  · isplitl [Hb]; · iexact Hb
    isplitl [Hub Hp HO]
    · isplitl [Hub]; · iexact Hub
      isplitl [Hp]; · iexists (ρ d); iexact Hp
      iexists Wd; isplitr; · ipureintro; exact hWd
      iexact HO
    isplitr
    · iexact Hlev
    · iexact HG
  iintro ⟨Hb, Hpost⟩
  icases Hpost with ⟨Hub, Hp, %Wd', %hWd', HO⟩
  ihave Hub := (Entails.of_eq (held_out m d)) $$ Hub
  icases Hub with ⟨Htri, Hrest⟩
  ihave Hs := (cores_split m (G m) d) $$ Htri
  icases Hs with ⟨Hss, Hkeep⟩
  iapply ((K (F := F)).wp_run (D (F := F)) 𝒱 (EH := EH) (P := P m (G m)) κ d 0)
  isplitr; · iexact Hctx
  isplitl [Hst HO]
  · iapply (Entails.of_eq (tcSt_zero d).symm)
    isplitl [HO]
    · iexists Wd'; isplitr; · ipureintro; exact hWd'
      iexact HO
    iexact Hst
  isplitl [Hss]; · iexact Hss
  iintro ⟨Hst, Hdn⟩
  ihave Hj := (cores_join m (G m) d) $$ [Hdn Hkeep]
  · isplitl [Hdn] <;> iassumption
  ihave Hub := (Entails.of_eq (held_in m d)) $$ [Hj Hrest]
  · isplitl [Hj] <;> iassumption
  iapply (StableHlo.wp_hlo_within 𝒱 (SparseCore.T d) none Set.univ (op := StableHlo.unary (τ := τ) main_v4 main_v5 ((extractStridedSlice S16x1 ![0,0] · slices_S16x16_S16x1_0_0) : (⟨S16x16, .f32⟩ : BufTy).Contents (Elt F) → (⟨S16x1, .f32⟩ : BufTy).Contents (Elt F))) (S := Pipeline.ucRefs τ sig)
    (Pipeline.sub_ucRefs _ (StableHlo.unary_bufs_sub ..))) $$ [Hb Hub]
  · isplitl [Hb] <;> iassumption
  iintro ⟨Hb, Hub⟩
  rw [wp_ret]; imodintro
  iapply (StableHlo.wp_hlo_within 𝒱 (SparseCore.T d) none Set.univ (op := StableHlo.reshape (τ := τ) main_v5 main_v6 (rfl : (.f32 : EltTy) = .f32) shapeCasts_S16x1_S16) (S := Pipeline.ucRefs τ sig)
    (Pipeline.sub_ucRefs _ (StableHlo.reshape_bufs_sub ..))) $$ [Hb Hub]
  · isplitl [Hb] <;> iassumption
  iintro ⟨Hb, Hub⟩
  rw [wp_ret]; imodintro
  imodintro
  isplitl [Hst]; · iexact Hst
  isplitl [Hub]; · iexact Hub
  isplitl [Hb] <;> iassumption

/-! ## The whole program's run -/

/-- What a terminal state holds of a device: the result and the arguments. -/
def fq (d : Dev nD) (s' : Phys nD τ sig (Elt F)) : Prop :=
  s'.mem.mem ((d.tc : Thread nD τ).loc main_v6) = W5 m d (Proc.devRef .tc main_v6)
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)
    ∧ s'.mem.mem ((d.tc : Thread nD τ).loc main_arg6) = m ((d.tc : Thread nD τ).loc main_arg6)
    ∧ s'.mem.mem ((d.tc : Thread nD τ).loc main_arg7) = m ((d.tc : Thread nD τ).loc main_arg7)

/-- One unscoped buffer's contents are what the terminal state holds. -/
theorem read_held (d : Dev nD) (s' : Phys nD τ sig (Elt F)) (r : Ref sig .tc) (hr : Proc.devRef .tc r ∈ Pipeline.ucRefs τ sig) :
    iprop(FIN m d ∗ SI s') ⊢ (⌜s'.mem.mem ((d.tc : Thread nD τ).loc r) = W5 m d (Proc.devRef .tc r)⌝ : sProp 𝕄) := by
  unfold FIN StableHlo.held
  iintro ⟨Hh, HSI⟩
  have hel : (bigSep (Pipeline.ucRefs τ sig) fun b => (((d.tc : Thread nD τ).1, b) ↦{fullShare} W5 m d b : sProp 𝕄))
      ⊢ (((d.tc : Thread nD τ).loc r) ↦{fullShare} W5 m d (Proc.devRef .tc r) : sProp 𝕄) := bigSep_elim (Φ := fun b => (((d.tc : Thread nD τ).1, b) ↦{fullShare} W5 m d b : sProp 𝕄)) hr
  ihave Hx := hel $$ Hh
  ihave H := (SI_pointsTo_agree (st := s') (ℓ := (d.tc : Thread nD τ).loc r) (I := Finset.univ) (q := fullShare) (f := W5 m d (Proc.devRef .tc r))) $$ [HSI Hx]
  · isplitl [HSI]; · iexact HSI
    iexact Hx
  icases H with %hx
  ipureintro
  exact funext fun x => hx x (Finset.mem_univ x)

/-- What each device ends with determines its terminal state. -/
theorem hfin (d : Dev nD) (s' : Phys nD τ sig (Elt F)) : iprop(FIN m d ∗ SI s') ⊢ (⌜fq m d s'⌝ : sProp 𝕄) := by
  have hall : iprop(FIN m d ∗ SI s') ⊢ (⌜∀ r : Ref sig .tc, Proc.devRef .tc r ∈ Pipeline.ucRefs τ sig →
      s'.mem.mem ((d.tc : Thread nD τ).loc r) = W5 m d (Proc.devRef .tc r)⌝ : sProp 𝕄) := by
    exact fun a h r hr => read_held m d s' r hr a h
  refine hall.trans (Laws.pure_mono fun h => ⟨h main_v6 (by decide), ?_⟩)
  refine ⟨(h main_arg0 (by decide)).trans (W5_arg m d main_arg0 (by decide) (by decide) (by decide) (by decide) (by decide) (by decide) (by decide)), (h main_arg1 (by decide)).trans (W5_arg m d main_arg1 (by decide) (by decide) (by decide) (by decide) (by decide) (by decide) (by decide)), (h main_arg2 (by decide)).trans (W5_arg m d main_arg2 (by decide) (by decide) (by decide) (by decide) (by decide) (by decide) (by decide)), (h main_arg3 (by decide)).trans (W5_arg m d main_arg3 (by decide) (by decide) (by decide) (by decide) (by decide) (by decide) (by decide)), (h main_arg4 (by decide)).trans (W5_arg m d main_arg4 (by decide) (by decide) (by decide) (by decide) (by decide) (by decide) (by decide)), (h main_arg5 (by decide)).trans (W5_arg m d main_arg5 (by decide) (by decide) (by decide) (by decide) (by decide) (by decide) (by decide)), (h main_arg6 (by decide)).trans (W5_arg m d main_arg6 (by decide) (by decide) (by decide) (by decide) (by decide) (by decide) (by decide)), (h main_arg7 (by decide)).trans (W5_arg m d main_arg7 (by decide) (by decide) (by decide) (by decide) (by decide) (by decide) (by decide))⟩

/-- What the run leaves: on each device the result and the arguments, and no semaphore raised. -/
def QC : PUnit × MemSt nD τ sig (Elt F) → Prop := fun r =>
  (∀ c : Dev nD, r.2.mem ((c.tc : Thread nD τ).loc main_v6) = W5 m c (Proc.devRef .tc main_v6)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) ∧ r.2.sem = fun _ => 0

/-- The run of the whole program: on every device the result is the one named, the arguments are unchanged and every counter is zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (G m)) (A := ∅) facts v₀
    (fun q hq => match q with | 0 => nomatch hq)
    (fun q _ => match q with | 0 => tileObl m (G m) facts)
    (fun q _ => match q with | 0 => SparseCore.Cfg.VecSplit.of_plain (vecSplit m (G m)))
    m ρ main (fun d => Gh d) (FIN m) (u₀ (F := F)) (sep_elim_left.trans (hu₀ m)) (hmain m ρ) (fq m) (hfin m) (QC m) (fun _ h hz => ⟨h, hz⟩)

/-- `Cert.quiescent_KernelIdeal` (Defs.lean). -/
theorem frame : Cert.quiescent_KernelIdeal := fun m ρ _ =>
  (θ_run Cert.KernelIdeal.defs _ _).mono (fun _ h => ⟨fun c => (h.1 c).2, h.2⟩) (run_main m ρ)

end Cert.Proof.KernelIdeal

end
-- ==== Proof.Ref.lean ====
/-
  The reference's frame, from the generated run of its operations.
-/
module

public import proofs.«01_k».proof.Proof.Gen.ReferenceIdeal.Run
public import proofs.«01_k».proof.Defs
public import Idealize.ShloMosaic.Lib.Quiescent

@[expose] public section

noncomputable section

namespace Cert.Proof.Ref

open Idealize.ShloMosaic Idealize.ShloMosaic.TcCoe Idealize.SL.Sem

/-- The reference runs, its arguments end unchanged, and it has no semaphore. -/
theorem frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof.Ref

end
-- ==== Proof.PreFacts.lean ====
/-
  The shape relations the precondition states, proved.
-/
module

public import proofs.«01_k».proof.Pre_admitted

@[expose] public section

set_option Elab.async false

namespace Cert.Proof.Pre

open Cert.Pre_admitted
open Idealize.ShloMosaic

/-- Every shape relation the precondition states, decided. -/
instance facts : Cert.Pre_admitted.Facts where
  bcast_S_S16x4096x128 := by decide
  reducesTo_S16x4096x128_S_d0_1_2 := by decide
  h_S_ := by decide
  bcast_S_S512x128 := by decide
  reducesTo_S512x128_S_d0_1 := by decide
  bcast_S_S512 := by decide
  reducesTo_S512_S_d0 := by decide
  bcast_S_S32x512 := by decide
  reducesTo_S32x512_S_d0_1 := by decide
  bcast_S_S32 := by decide
  reducesTo_S32_S_d0 := by decide
  bcast_S_S1x32 := by decide
  reducesTo_S1x32_S_d0_1 := by decide
  bcast_S_S1 := by decide
  reducesTo_S1_S_d0 := by decide
  bcast_S_S16 := by decide
  reducesTo_S16_S_d0 := by decide
  transposes_S512x128_S128x512_1_0 := by decide
  bcast_S512_S1x1x512_2 := by decide
  bcast_S1x1x512_S16x4096x512_0_1_2 := by decide
  bcast_S_S16x4096x512 := by decide
  transposes_S32x512_S512x32_1_0 := by decide
  bcast_S32_S1x1x32_2 := by decide
  bcast_S1x1x32_S16x4096x32_0_1_2 := by decide
  transposes_S1x32_S32x1_1_0 := by decide
  bcast_S1_S1x1x1_2 := by decide
  bcast_S1x1x1_S16x4096x1_0_1_2 := by decide
  bcast_S_S16x4096x1 := by decide
  shapeCasts_S16x4096x1_S16x4096 := by decide
  bcast_S4096_S1x4096_1 := by decide
  bcast_S16_S16x1_0 := by decide
  bcast_S1x4096_S16x4096_0_1 := by decide
  bcast_S16x1_S16x4096_0_1 := by decide
  bcast_S_S16x4096 := by decide
  bcast_S_S16x1 := by decide
  shapeCasts_S16x1_S16x1x1 := by decide
  bcast_S_S16x1x1 := by decide
  bcast_S1x1x1_S16x1x1_0_1_2 := by decide
  reducesTo_S16x1x1_S16x1_d2 := by decide
  bcast_S_S126 := by decide
  bcast_S126_S1x126_1 := by decide
  bcast_S16x1_S16x126_0_1 := by decide
  bcast_S1x126_S16x126_0_1 := by decide
  bcast_S_S16x126 := by decide
  reducesTo_S16x126_S16_d1 := by decide
  dot_S16x4096x128_S128x512_S16x4096x512_2_0_01_1_n_n_wf := by decide
  dot_S16x4096x512_S512x32_S16x4096x32_2_0_01_1_n_n_wf := by decide
  dot_S16x4096x32_S32x1_S16x4096x1_2_0_01_1_n_n_wf := by decide
  gather_S16x4096_S16x1x1_S16x1_n_1_0_0_1_2_11_wf := by decide

end Cert.Proof.Pre

end
-- ==== Proof.RefDefs.lean ====
/-
  The reference's result and the precondition, each in named pieces: the logits, the masked row, the row in descending
  order, `k`, the running sums, and the three parts of the precondition.
-/
module

public import proofs.«01_k».proof.Proof.PreFacts
public import proofs.«01_k».proof.Proof.Ref

@[expose] public section

noncomputable section

namespace Cert.Proof.RefVal

open Cert.Pre_admitted Cert.Pre_admitted.Facts
open Idealize.ShloMosaic

abbrev V (s : Shape) : Type := FVec Ideal s .f32

/-- The hidden layer after its bias and `max 0`. -/
def hidR (a0 : V S16x4096x128) (a2 : V S512x128) (a3 : V S512) : V S16x4096x512 :=
  maximumf (addf (Host.dotGeneral dot_S16x4096x128_S128x512_S16x4096x512_2_0_01_1_n_n none a0
      (transpose S128x512 [1, 0] a2 transposes_S512x128_S128x512_1_0))
    (broadcastInDim S16x4096x512 ![0, 1, 2] bcast_S1x1x512_S16x4096x512_0_1_2 (broadcastInDim S1x1x512 ![2] bcast_S512_S1x1x512_2 a3)))
    (broadcastInDim S16x4096x512 ![] bcast_S_S16x4096x512 (constant S_ .f32 0x00000000#32))
/-- The second layer. -/
def midR (h : V S16x4096x512) (a4 : V S32x512) (a5 : V S32) : V S16x4096x32 :=
  addf (Host.dotGeneral dot_S16x4096x512_S512x32_S16x4096x32_2_0_01_1_n_n none h
      (transpose S512x32 [1, 0] a4 transposes_S32x512_S512x32_1_0))
    (broadcastInDim S16x4096x32 ![0, 1, 2] bcast_S1x1x32_S16x4096x32_0_1_2 (broadcastInDim S1x1x32 ![2] bcast_S32_S1x1x32_2 a5))
/-- The third layer. -/
def preR (z : V S16x4096x32) (a6 : V S1x32) (a7 : V S1) : V S16x4096x1 :=
  addf (Host.dotGeneral dot_S16x4096x32_S32x1_S16x4096x1_2_0_01_1_n_n none z
      (transpose S32x1 [1, 0] a6 transposes_S1x32_S32x1_1_0))
    (broadcastInDim S16x4096x1 ![0, 1, 2] bcast_S1x1x1_S16x4096x1_0_1_2 (broadcastInDim S1x1x1 ![2] bcast_S1_S1x1x1_2 a7))
/-- The logistic function as the reference spells it, and the last axis dropped. -/
def sigR (x : V S16x4096x1) : V S16x4096 :=
  shapeCast S16x4096 (Host.divf (broadcastInDim S16x4096x1 ![] bcast_S_S16x4096x1 (constant S_ .f32 0x3F800000#32))
    (addf (broadcastInDim S16x4096x1 ![] bcast_S_S16x4096x1 (constant S_ .f32 0x3F800000#32)) (Host.exp (Host.negf x))))
    shapeCasts_S16x4096x1_S16x4096
/-- The logits of the reference. -/
def logitsR (a0 : V S16x4096x128) (a2 : V S512x128) (a3 : V S512) (a4 : V S32x512) (a5 : V S32) (a6 : V S1x32) (a7 : V S1) :
    V S16x4096 := sigR (preR (midR (hidR a0 a2 a3) a4 a5) a6 a7)
/-- The logits with the positions at or past a row's length at `-∞`. -/
def maskR (n : IVec S16 32) (x : V S16x4096) : V S16x4096 :=
  fn_where (F := Ideal) (cmpi .slt
    (broadcastInDim S16x4096 ![0, 1] bcast_S1x4096_S16x4096_0_1 (broadcastInDim S1x4096 ![1] bcast_S4096_S1x4096_1 (iotaInDim S4096 32 0)))
    (broadcastInDim S16x4096 ![0, 1] bcast_S16x1_S16x4096_0_1 (broadcastInDim S16x1 ![0] bcast_S16_S16x1_0 n)))
    x (constant S_ .f32 0xFF800000#32)
/-- Each row in descending order. -/
def sortR (x : V S16x4096) : V S16x4096 := Host.negf (fn_sort (F := Ideal) (Host.negf x))
/-- `k`, a row's length divided by sixteen plus one. -/
def kR (n : IVec S16 32) : IVec S16 32 :=
  addi (fn_floor_divide (F := Ideal) n (constantI S_ 32 16#32)) (broadcastInDim S16 ![] bcast_S_S16 (constantI S_ 32 1#32))
/-- `k` less one. -/
def k1R (n : IVec S16 32) : IVec S16 32 := subi (kR n) (broadcastInDim S16 ![] bcast_S_S16 (constantI S_ 32 1#32))
/-- The element of every row at its own index. -/
def takeR (x : V S16x4096) (i : IVec S16 32) : V S16x1 :=
  fn_take_along_axis (F := Ideal) x (broadcastInDim S16x1 ![0] bcast_S16_S16x1_0 i)
/-- The rows with the infinite entries at zero. -/
def safeR (x : V S16x4096) : V S16x4096 :=
  select (cmpf .olt (Host.absf x) (broadcastInDim S16x4096 ![] bcast_S_S16x4096 (constant S_ .f32 0x7F800000#32))) x
    (broadcastInDim S16x4096 ![] bcast_S_S16x4096 (id (constant S_ .f32 0x00000000#32)))
/-- The running sums along each row. -/
def csumR (x : V S16x4096) : V S16x4096 :=
  Host.reduceWindowAdd ![1, 4096] ![1, 1] ![0, 4095] ![0, 0] x
    (broadcastInDim S_ ![] Cert.ReferenceIdeal.Gen.bcast_S_S_ (constant S_ .f32 0x00000000#32))
    Cert.ReferenceIdeal.Gen.reduceWindows_S16x4096_S16x4096_w1s1p0_0_w4096s1p4095_0 h_S_
/-- The reference's result from the logits and the lengths. -/
def outR (n : IVec S16 32) (x : V S16x4096) : V S16 :=
  Host.divf (shapeCast S16 (takeR (csumR (safeR (sortR (maskR n x)))) (k1R n)) Cert.ReferenceIdeal.Gen.shapeCasts_S16x1_S16) (sitofp .f32 (kR n))

set_option maxRecDepth 8192 in
/-- The reference's result, in these pieces. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v48 (F := Ideal) m c
      = outR (m ((c.tc : Thread Cert.ReferenceIdeal.nD Cert.ReferenceIdeal.τ).loc Cert.ReferenceIdeal.main_arg1))
        (logitsR (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))) := by
  unfold Cert.ReferenceIdeal.Value.res_main_v48
  rfl

/-- Every element of an array is finite, as one bit. -/
def finP (a0 : V S16x4096x128) (a2 : V S512x128) (a3 : V S512) (a4 : V S32x512) (a5 : V S32) (a6 : V S1x32) (a7 : V S1) : IVec S_ 1 :=
  andi (andi (andi (andi (andi (andi (andi (constantI S_ 1 1#1)
    (Host.reduce IntOp.andi (cmpf .olt (Host.absf a0) (broadcastInDim S16x4096x128 ![] bcast_S_S16x4096x128 (constant S_ .f32 0x7F800000#32))) (constantI S_ 1 1#1) reducesTo_S16x4096x128_S_d0_1_2 h_S_))
    (Host.reduce IntOp.andi (cmpf .olt (Host.absf a2) (broadcastInDim S512x128 ![] bcast_S_S512x128 (constant S_ .f32 0x7F800000#32))) (constantI S_ 1 1#1) reducesTo_S512x128_S_d0_1 h_S_))
    (Host.reduce IntOp.andi (cmpf .olt (Host.absf a3) (broadcastInDim S512 ![] bcast_S_S512 (constant S_ .f32 0x7F800000#32))) (constantI S_ 1 1#1) reducesTo_S512_S_d0 h_S_))
    (Host.reduce IntOp.andi (cmpf .olt (Host.absf a4) (broadcastInDim S32x512 ![] bcast_S_S32x512 (constant S_ .f32 0x7F800000#32))) (constantI S_ 1 1#1) reducesTo_S32x512_S_d0_1 h_S_))
    (Host.reduce IntOp.andi (cmpf .olt (Host.absf a5) (broadcastInDim S32 ![] bcast_S_S32 (constant S_ .f32 0x7F800000#32))) (constantI S_ 1 1#1) reducesTo_S32_S_d0 h_S_))
    (Host.reduce IntOp.andi (cmpf .olt (Host.absf a6) (broadcastInDim S1x32 ![] bcast_S_S1x32 (constant S_ .f32 0x7F800000#32))) (constantI S_ 1 1#1) reducesTo_S1x32_S_d0_1 h_S_))
    (Host.reduce IntOp.andi (cmpf .olt (Host.absf a7) (broadcastInDim S1 ![] bcast_S_S1 (constant S_ .f32 0x7F800000#32))) (constantI S_ 1 1#1) reducesTo_S1_S_d0 h_S_)
/-- Every length is between 16 and 4096, as one bit. -/
def lenP (n : IVec S16 32) : IVec S_ 1 :=
  Host.reduce IntOp.andi (andi (cmpi .sge n (broadcastInDim S16 ![] bcast_S_S16 (constantI S_ 32 16#32)))
    (cmpi .sle n (broadcastInDim S16 ![] bcast_S_S16 (constantI S_ 32 4096#32)))) (constantI S_ 1 1#1) reducesTo_S16_S_d0 h_S_
/-- The powers of two tried. -/
def scaleP : V S1x126 :=
  broadcastInDim S1x126 ![1] bcast_S126_S1x126_1 (Host.powf (broadcastInDim S126 ![] bcast_S_S126 (constant S_ .f32 0x40000000#32))
    (sitofp .f32 (addi (broadcastInDim S126 ![] bcast_S_S126 (constantI S_ 32 24#32)) (iotaInDim S126 32 0))))
/-- For a row and a power of two, whether a number of 24 bits at that scale separates the `k`-th entry from the next. -/
def sepP (last after : V S16x1) : IVec S16x126 1 :=
  cmpf .ole (mulf (broadcastInDim S16x126 ![0, 1] bcast_S16x1_S16x126_0_1 after) (broadcastInDim S16x126 ![0, 1] bcast_S1x126_S16x126_0_1 scaleP))
    (minimumf (Host.floor (mulf (broadcastInDim S16x126 ![0, 1] bcast_S16x1_S16x126_0_1 last) (broadcastInDim S16x126 ![0, 1] bcast_S1x126_S16x126_0_1 scaleP)))
      (broadcastInDim S16x126 ![] bcast_S_S16x126 (constant S_ .f32 0x4B7FFFFF#32)))
/-- For every row there is such a power, as one bit. -/
def allP (s : IVec S16x126 1) : IVec S_ 1 :=
  Host.reduce IntOp.andi (Host.reduce IntOp.ori s (constantI S_ 1 0#1) reducesTo_S16x126_S16_d1 h_S_) (constantI S_ 1 1#1) reducesTo_S16_S_d0 h_S_

set_option maxRecDepth 8192 in
/-- The precondition, in these pieces. -/
theorem pre_eq (a0 : V S16x4096x128) (n : IVec S16 32) (a2 : V S512x128) (a3 : V S512) (a4 : V S32x512) (a5 : V S32) (a6 : V S1x32) (a7 : V S1) :
    Cert.Pre_admitted.fn (F := Ideal) a0 n a2 a3 a4 a5 a6 a7
      = andi (andi (finP a0 a2 a3 a4 a5 a6 a7) (lenP n))
        (allP (sepP (takeR (sortR (maskR n (logitsR a0 a2 a3 a4 a5 a6 a7))) (k1R n)) (takeR (sortR (maskR n (logitsR a0 a2 a3 a4 a5 a6 a7))) (kR n)))) := rfl

end Cert.Proof.RefVal

end
-- ==== Proof.Math.Sums.lean ====
/-
  Sums over the sixteen lanes and over the 4096 positions of a row: the all-lanes sum by four cyclic steps, the chunked
  running totals, and the count of a row's elements as a word.
-/
module

public import proofs.«01_k».proof.Proof.KernelIdeal.Vals
public import Idealize.ShloMosaic.Lib.WordSum

@[expose] public section

noncomputable section

namespace Cert.Proof.KernelIdeal

open Cert.KernelIdeal Cert.KernelIdeal.Gen
open Idealize.ShloMosaic

variable {M : Type} [AddCommMonoid M]

/-- A lane shifted, -/
theorem ln_add (n s : ℕ) : ln (((ln n) 0).val + s) = ln (n + s) := by
  funext i
  match i with
  | ⟨0, _⟩ => exact Fin.ext (show ((n % 16) + s) % 16 = (n + s) % 16 by omega)

/-- a lane by its number, -/
theorem eq_ln (x : S16.Idx) : x = ln (x 0).val := by
  funext i
  match i with
  | ⟨0, _⟩ => exact Fin.ext (show (x 0).val = (x 0).val % 16 from (Nat.mod_eq_of_lt (x 0).isLt).symm)

/-- and a lane after a whole turn. -/
theorem ln_turn (n : ℕ) : ln (n + 16) = ln n := by
  funext i
  match i with
  | ⟨0, _⟩ => exact Fin.ext (show (n + 16) % 16 = n % 16 by omega)

/-- One rotation at a lane. -/
theorem rotStep_ln (s : ℕ) (a : S16.Idx → M) (n : ℕ) : rotStep (· + ·) s a (ln n) = a (ln n) + a (ln (n + s)) := by
  show a (ln n) + a (ln (((ln n) 0).val + s)) = _
  rw [ln_add]

/-- A sum over one full turn starts anywhere. -/
theorem sum_turn (b : ℕ → M) (hb : ∀ n, b (n + 16) = b n) (n : ℕ) : ∑ i ∈ Finset.range 16, b (n + i) = ∑ i ∈ Finset.range 16, b i := by
  induction n with
  | zero => simp
  | succ n ih =>
    rw [← ih, Finset.sum_range_succ, Finset.sum_range_succ' (fun i => b (n + i)) 15]
    have : n + 1 + 15 = n + 16 := by omega
    rw [this, hb, Nat.add_zero]
    congr 1

/-- The four cyclic steps leave the sum of all sixteen lanes on every lane. -/
theorem rot_all (a : S16.Idx → M) (x : S16.Idx) :
    rotStep (· + ·) 8 (rotStep (· + ·) 4 (rotStep (· + ·) 2 (rotStep (· + ·) 1 a))) x = ∑ i ∈ Finset.range 16, a (ln i) := by
  rw [eq_ln x, ← sum_turn (fun i => a (ln i)) (fun n => by rw [ln_turn]) (x 0).val]
  simp only [rotStep_ln, Finset.sum_range_succ, Finset.sum_range_zero, zero_add, Nat.add_zero, Nat.add_assoc, Nat.reduceAdd]
  abel

/-- A sum over `m * n` terms as `m` blocks of `n`. -/
theorem sum_blocks (g : ℕ → M) (m n : ℕ) : ∑ i ∈ Finset.range (m * n), g i = ∑ a ∈ Finset.range m, ∑ b ∈ Finset.range n, g (a * n + b) := by
  induction m with
  | zero => simp
  | succ m ih => rw [Finset.sum_range_succ, ← ih, Nat.succ_mul, Finset.sum_range_add]

/-- Lane by lane, trip by trip, chunk by chunk: every position once. -/
theorem sum_lanes (h : ℕ → M) :
    ∑ l ∈ Finset.range 16, ∑ j ∈ Finset.range 16, ∑ r ∈ Finset.range 16, h (256 * j + 16 * r + l) = ∑ y ∈ Finset.range 4096, h y := by
  rw [Finset.sum_comm, show 4096 = 16 * 256 from rfl, sum_blocks h 16 256]
  refine Finset.sum_congr rfl fun j _ => ?_
  rw [Finset.sum_comm, show 256 = 16 * 16 from rfl, sum_blocks _ 16 16]
  refine Finset.sum_congr rfl fun r _ => Finset.sum_congr rfl fun l _ => ?_
  congr 1; omega

/-- The running sum of a trip, as a sum. -/
theorem accR_sum (g : ℕ → S16.Idx → M) (j : ℕ) (a : S16.Idx → M) (n : ℕ) (x : S16.Idx) :
    accR (fun u v i => u i + v i) g j a n x = a x + ∑ r ∈ Finset.range n, g (256 * j + 16 * r) x := by
  induction n with
  | zero => simp [accR]
  | succ n ih =>
    show accR (fun u v i => u i + v i) g j a n x + _ = _
    rw [ih, Finset.sum_range_succ, add_assoc]

/-- The word `Σ` of a 0/1 indicator over a finite set is the number of members it marks. -/
theorem sum_ind {ι : Type} (S : Finset ι) (p : ι → Prop) [DecidablePred p] (hn : S.card < 2 ^ 32) :
    (∑ y ∈ S, if p y then 1#32 else 0#32) = BitVec.ofNat 32 (S.filter p).card := by
  have h1 : ∑ y ∈ S, (if p y then 1#32 else 0#32 : BitVec 32).toNat = (S.filter p).card := by
    rw [Finset.card_filter]
    exact Finset.sum_congr rfl fun y _ => by split_ifs <;> rfl
  have h2 : (S.filter p).card ≤ S.card := Finset.card_filter_le _ _
  apply BitVec.eq_of_toNat_eq
  rw [WordSum.toNat_sum _ _ (by rw [h1]; omega), h1, BitVec.toNat_ofNat, Nat.mod_eq_of_lt (by omega)]

/-- A sum of reals is the same sum among the extended reals. -/
theorem coe_sum {ι : Type} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

end Cert.Proof.KernelIdeal

end
-- ==== Proof.Mlp.lean ====
/-
  The three-layer perceptron on finite inputs: the reference's order of the products and the kernel's, which multiplies
  the last two weight matrices first, give the same nonnegative real.
-/
module

public import proofs.«01_k».proof.Proof.RefDefs
public import proofs.«01_k».proof.Proof.KernelIdeal.Tc
public import proofs.«01_k».proof.Proof.Math.Sums
public import Idealize.ShloMosaic.Lib.Pointwise

@[expose] public section

set_option maxRecDepth 16384

noncomputable section

namespace Cert.Proof.RefVal

open Cert.Pre_admitted Cert.Pre_admitted.Facts
open Idealize.ShloMosaic
open Cert.Proof.KernelIdeal (coe_sum)

/-- A hidden unit. -/
def hidden (x : Fin 128 → ℝ) (w1 : Fin 512 → Fin 128 → ℝ) (b1 : Fin 512 → ℝ) (h : Fin 512) : ℝ := max (∑ d, x d * w1 h d + b1 h) 0

/-- The value before the logistic function. -/
def affine (x : Fin 128 → ℝ) (w1 : Fin 512 → Fin 128 → ℝ) (b1 : Fin 512 → ℝ) (w2 : Fin 32 → Fin 512 → ℝ) (b2 : Fin 32 → ℝ) (w3 : Fin 32 → ℝ)
    (b3 : ℝ) : ℝ := ∑ j, (∑ h, hidden x w1 b1 h * w2 j h + b2 j) * w3 j + b3

/-- The kernel's order of the products. -/
theorem affine_eq (x : Fin 128 → ℝ) (w1 : Fin 512 → Fin 128 → ℝ) (b1 : Fin 512 → ℝ) (w2 : Fin 32 → Fin 512 → ℝ) (b2 : Fin 32 → ℝ) (w3 : Fin 32 → ℝ)
    (b3 : ℝ) : affine x w1 b1 w2 b2 w3 b3 = ∑ h, (∑ j, w3 j * w2 j h) * hidden x w1 b1 h + (∑ j, w3 j * b2 j + b3) := by
  unfold affine
  rw [← add_assoc]
  congr 1
  simp only [add_mul, Finset.sum_add_distrib, Finset.sum_mul]
  rw [Finset.sum_comm]
  congr 1
  · exact Finset.sum_congr rfl fun h _ => Finset.sum_congr rfl fun j _ => by ring
  · exact Finset.sum_congr rfl fun j _ => by ring

/-- The logistic function of a real. -/
def sig (x : ℝ) : ℝ := (1 + Real.exp (-x))⁻¹

/-- The logistic function is nonnegative. -/
theorem sig_nonneg (x : ℝ) : 0 ≤ sig x := by unfold sig; positivity

/-- The logistic function at a real. -/
theorem logistic_real (x : ℝ) : Idealize.ShloMosaic.Ideal.logistic (x : EReal) = ((sig x : ℝ) : EReal) :=
  (Idealize.ShloMosaic.Ideal.logistic_coe (r := x))

/-- The larger of two reals. -/
theorem max_coe (x y : ℝ) : max (x : EReal) (y : EReal) = ((max x y : ℝ) : EReal) := (EReal.coe_strictMono.monotone.map_max).symm

variable (a0 : V S16x4096x128) (a2 : V S512x128) (a3 : V S512) (a4 : V S32x512) (a5 : V S32) (a6 : V S1x32) (a7 : V S1)
variable (x0 : S16x4096x128.Idx → ℝ) (x2 : S512x128.Idx → ℝ) (x3 : S512.Idx → ℝ) (x4 : S32x512.Idx → ℝ) (x5 : S32.Idx → ℝ) (x6 : S1x32.Idx → ℝ)
  (x7 : S1.Idx → ℝ)

/-- The logit of row `b` at position `y`, from real arguments. -/
def logit (b : Fin 16) (y : Fin 4096) : ℝ :=
  sig (affine (fun d => x0 (ix3 b y d)) (fun h d => x2 (ix2 h d)) (fun h => x3 (ix1 h)) (fun j h => x4 (ix2 j h)) (fun j => x5 (ix1 j))
    (fun j => x6 (ix2 0 j)) (x7 (ix1 0)))

/-- The reference's logits. -/
theorem logitsR_at (h0 : ∀ i, a0 i = (x0 i : EReal)) (h2 : ∀ i, a2 i = (x2 i : EReal)) (h3 : ∀ i, a3 i = (x3 i : EReal))
    (h4 : ∀ i, a4 i = (x4 i : EReal)) (h5 : ∀ i, a5 i = (x5 i : EReal)) (h6 : ∀ i, a6 i = (x6 i : EReal)) (h7 : ∀ i, a7 i = (x7 i : EReal))
    (b : Fin 16) (y : Fin 4096) :
    logitsR a0 a2 a3 a4 a5 a6 a7 (ix2 b y) = ((logit x0 x2 x3 x4 x5 x6 x7 b y : ℝ) : EReal) := by
  unfold logit
  rw [← logistic_real]
  pointwise [logitsR, sigR, preR, midR, hidR]
  unfold Idealize.ShloMosaic.Ideal.logistic affine hidden
  simp only [h0, h2, h3, h4, h5, h6, h7, coe_sum, EReal.coe_add, EReal.coe_mul, ← max_coe, EReal.coe_zero]

/-- The kernel's logits. -/
theorem pay_at (v0 : V S1x32) (v1 : V S32x512) (v3 v4 : V S1x32) (v9 : V ⟨2, ![1, 1]⟩) (v12 : V ⟨3, ![1, 4096, 128]⟩) (v14 : V S512x128)
    (v16 : V ⟨2, ![1, 512]⟩) (b : Fin 16)
    (e0 : ∀ j, v0 (ix2 0 j) = (x6 (ix2 0 j) : EReal)) (e1 : ∀ j h, v1 (ix2 j h) = (x4 (ix2 j h) : EReal))
    (e3 : ∀ j, v3 (ix2 0 j) = (x6 (ix2 0 j) : EReal)) (e4 : ∀ j, v4 (ix2 0 j) = (x5 (ix1 j) : EReal)) (e9 : v9 (ix2 0 0) = (x7 (ix1 0) : EReal))
    (e12 : ∀ y d, v12 (ix3 0 y d) = (x0 (ix3 b y d) : EReal)) (e14 : ∀ h d, v14 (ix2 h d) = (x2 (ix2 h d) : EReal))
    (e16 : ∀ h, v16 (ix2 0 h) = (x3 (ix1 h) : EReal)) (y : Fin 4096) :
    Cert.KernelIdeal.Gen.k0_pay1 (F := Ideal) v0 v1 v3 v4 v9 v12 v14 v16 (ix1 y) = ((logit x0 x2 x3 x4 x5 x6 x7 b y : ℝ) : EReal) := by
  unfold logit
  rw [← logistic_real, affine_eq]
  pointwise [Cert.KernelIdeal.Gen.k0_pay1]
  unfold hidden
  simp only [e0, e1, e3, e4, e9, e12, e14, e16, coe_sum, EReal.coe_add, EReal.coe_mul, ← max_coe, EReal.coe_zero]

end Cert.Proof.RefVal

end
-- ==== Proof.TcVal.lean ====
/-
  What the TensorCore call leaves in its result array on finite inputs: at position `4096 b + y`, the logit of row `b` at `y`.
-/
module

public import proofs.«01_k».proof.Proof.KernelIdeal.Launch
public import proofs.«01_k».proof.Proof.Mlp
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe
open Cert.Proof.RefVal (logit pay_at)

variable (m : (ℓ : Loc nD τ sig) → Buf (Elt Ideal) ℓ)
variable (x0 : S16x4096x128.Idx → ℝ) (x2 : S512x128.Idx → ℝ) (x3 : S512.Idx → ℝ) (x4 : S32x512.Idx → ℝ) (x5 : S32.Idx → ℝ) (x6 : S1x32.Idx → ℝ)
  (x7 : S1.Idx → ℝ)

/-- The logits as one array. -/
def logitArr : S65536.Idx → EReal := fun i =>
  ((logit x0 x2 x3 x4 x5 x6 x7 ⟨(i 0).val / 4096, by have := (i 0).isLt; simp at this; omega⟩ ⟨(i 0).val % 4096, Nat.mod_lt _ (by decide)⟩ : ℝ) : EReal)

/-- It, by the row and the position. -/
theorem logitArr_at (i : S65536.Idx) (b : Fin 16) (y : Fin 4096) (h : (i 0).val = b.val * 4096 + y.val) :
    logitArr x0 x2 x3 x4 x5 x6 x7 i = ((logit x0 x2 x3 x4 x5 x6 x7 b y : ℝ) : EReal) := by
  have eb : (⟨(i 0).val / 4096, by have := (i 0).isLt; simp at this; omega⟩ : Fin 16) = b := Fin.ext (by show (i 0).val / 4096 = _; omega)
  have ey : (⟨(i 0).val % 4096, Nat.mod_lt _ (by decide)⟩ : Fin 4096) = y := Fin.ext (by show (i 0).val % 4096 = _; omega)
  unfold logitArr
  rw [eb, ey]

/-- Where each window stands at point `t`: the input rows and the result move with the point, the weights stay. -/
theorem idx0 : ∀ t : Fin grid0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val] := by decide +kernel

/-- What the TensorCore call's pipeline writes back, from the contents it is entered with: the logits. -/
theorem arr7_eq (W : (c : Dev nD) → Valuation τ sig (Elt Ideal)) (c : Dev nD)
    (h0 : ∀ i, (W c (Proc.devRef .tc main_arg0) : S16x4096x128.Idx → EReal) i = (x0 i : EReal))
    (h2 : ∀ i, (W c (Proc.devRef .tc main_arg2) : S512x128.Idx → EReal) i = (x2 i : EReal))
    (h3 : ∀ h : Fin 512, (W c (Proc.devRef .tc main_v0) : S1x512.Idx → EReal) (ix2 0 h) = (x3 (ix1 h) : EReal))
    (h4 : ∀ i, (W c (Proc.devRef .tc main_arg4) : S32x512.Idx → EReal) i = (x4 i : EReal))
    (h5 : ∀ j : Fin 32, (W c (Proc.devRef .tc main_v1) : S1x32.Idx → EReal) (ix2 0 j) = (x5 (ix1 j) : EReal))
    (h6 : ∀ i, (W c (Proc.devRef .tc main_arg6) : S1x32.Idx → EReal) i = (x6 i : EReal))
    (h7 : (W c (Proc.devRef .tc main_v2) : S1x1.Idx → EReal) (ix2 0 0) = (x7 (ix1 0) : EReal)) :
    (dat0 (F := Ideal) (VW W) c).arrAt 7 cfg0.N = logitArr x0 x2 x3 x4 x5 x6 x7 := by
  refine (dat0 (F := Ideal) (VW W) c).arrAt_eq_of_covers 7 _ (by decide +kernel) fun t hf y => ?_
  blk_simp
  rw [after0_7]
  frame_out
  have ht : t.val < 16 := t.isLt
  have hy : (y 0).val < 4096 := (y 0).isLt
  have ey : y = ix1 (n0 := 4096) ⟨(y 0).val, hy⟩ := by funext a; match a with | ⟨0, _⟩ => rfl
  have e0 : ∀ j : Fin 32, iblk0 (VW W) c 5 t (ix2 0 j) = (x6 (ix2 0 j) : EReal) := fun j => by
    refine Eq.trans ?_ (h6 (ix2 0 j)); blk_ext [iblk0, idx0 t]
  have e1 : ∀ (j : Fin 32) (h : Fin 512), iblk0 (VW W) c 3 t (ix2 j h) = (x4 (ix2 j h) : EReal) := fun j h => by
    refine Eq.trans ?_ (h4 (ix2 j h)); blk_ext [iblk0, idx0 t]
  have e4 : ∀ j : Fin 32, iblk0 (VW W) c 4 t (ix2 0 j) = (x5 (ix1 j) : EReal) := fun j => by
    refine Eq.trans ?_ (h5 j); blk_ext [iblk0, idx0 t]
  have e9 : iblk0 (VW W) c 6 t (ix2 0 0) = (x7 (ix1 0) : EReal) := by
    refine Eq.trans ?_ h7; blk_ext [iblk0, idx0 t]
  have e12 : ∀ (z : Fin 4096) (d : Fin 128), iblk0 (VW W) c 0 t (ix3 0 z d) = (x0 (ix3 ⟨t.val, ht⟩ z d) : EReal) := fun z d => by
    refine Eq.trans ?_ (h0 (ix3 ⟨t.val, ht⟩ z d)); blk_ext [iblk0, idx0 t]
  have e14 : ∀ (h : Fin 512) (d : Fin 128), iblk0 (VW W) c 1 t (ix2 h d) = (x2 (ix2 h d) : EReal) := fun h d => by
    refine Eq.trans ?_ (h2 (ix2 h d)); blk_ext [iblk0, idx0 t]
  have e16 : ∀ h : Fin 512, iblk0 (VW W) c 2 t (ix2 0 h) = (x3 (ix1 h) : EReal) := fun h => by
    refine Eq.trans ?_ (h3 h); blk_ext [iblk0, idx0 t]
  rw [ey]
  refine (pay_at x0 x2 x3 x4 x5 x6 x7 _ _ _ _ _ _ _ _ ⟨t.val, ht⟩ e0 e1 e0 e4 e9 e12 e14 e16 _).trans ?_
  refine (logitArr_at x0 x2 x3 x4 x5 x6 x7 _ ⟨t.val, ht⟩ ⟨(y 0).val, hy⟩ ?_).symm
  show ((((View.whole main_v3).slice (win0_7.rect t)).emb (ix1 (n0 := 4096) ⟨(y 0).val, hy⟩)) 0).val = t.val * 4096 + (y 0).val
  blk_simp [idx0 t]

/-- The three reshapes, read at an index. -/
theorem W1_v0 (d : Dev nD) (h : Fin 512) :
    (W1 m d (Proc.devRef .tc main_v0) : S1x512.Idx → EReal) (ix2 0 h) = (m ((SparseCore.T d).loc main_arg3) : S512.Idx → EReal) (ix1 h) := by
  unfold W1
  after_results_simp
  pointwise [W0]

/-- The second bias's reshape. -/
theorem W1_v1 (d : Dev nD) (h : Fin 32) :
    (W1 m d (Proc.devRef .tc main_v1) : S1x32.Idx → EReal) (ix2 0 h) = (m ((SparseCore.T d).loc main_arg5) : S32.Idx → EReal) (ix1 h) := by
  unfold W1
  after_results_simp
  pointwise [W0]

/-- The third bias's. -/
theorem W1_v2 (d : Dev nD) :
    (W1 m d (Proc.devRef .tc main_v2) : S1x1.Idx → EReal) (ix2 0 0) = (m ((SparseCore.T d).loc main_arg7) : S1.Idx → EReal) (ix1 0) := by
  unfold W1
  after_results_simp
  pointwise [W0]

/-- The logits the TensorCore call leaves, from finite arguments. -/
theorem G_at (d : Dev nD)
    (h0 : ∀ i, (m ((SparseCore.T d).loc main_arg0) : S16x4096x128.Idx → EReal) i = (x0 i : EReal))
    (h2 : ∀ i, (m ((SparseCore.T d).loc main_arg2) : S512x128.Idx → EReal) i = (x2 i : EReal))
    (h3 : ∀ i, (m ((SparseCore.T d).loc main_arg3) : S512.Idx → EReal) i = (x3 i : EReal))
    (h4 : ∀ i, (m ((SparseCore.T d).loc main_arg4) : S32x512.Idx → EReal) i = (x4 i : EReal))
    (h5 : ∀ i, (m ((SparseCore.T d).loc main_arg5) : S32.Idx → EReal) i = (x5 i : EReal))
    (h6 : ∀ i, (m ((SparseCore.T d).loc main_arg6) : S1x32.Idx → EReal) i = (x6 i : EReal))
    (h7 : ∀ i, (m ((SparseCore.T d).loc main_arg7) : S1.Idx → EReal) i = (x7 i : EReal)) :
    (G m d : S65536.Idx → EReal) = logitArr x0 x2 x3 x4 x5 x6 x7 := by
  have e : (G m d : S65536.Idx → EReal) = (dat0 (F := Ideal) (VW (W1 m)) d).arrAt 7 cfg0.N := W'_arr (W1 m) d 7
  rw [e]
  refine arr7_eq x0 x2 x3 x4 x5 x6 x7 (W1 m) d (fun i => ?_) (fun i => ?_) (fun h => (W1_v0 m d h).trans (h3 _)) (fun i => ?_)
    (fun j => (W1_v1 m d j).trans (h5 _)) (fun i => ?_) ((W1_v2 m d).trans (h7 _))
  · rw [W1_arg m d main_arg0 (by decide) (by decide) (by decide)]; exact h0 i
  · rw [W1_arg m d main_arg2 (by decide) (by decide) (by decide)]; exact h2 i
  · rw [W1_arg m d main_arg4 (by decide) (by decide) (by decide)]; exact h4 i
  · rw [W1_arg m d main_arg6 (by decide) (by decide) (by decide)]; exact h6 i

/-- Row `b` of them. -/
theorem rowOf_logitArr (b : Fin 16) (y : S4096.Idx) :
    rowOf (F := Ideal) (logitArr x0 x2 x3 x4 x5 x6 x7) b.val y = ((logit x0 x2 x3 x4 x5 x6 x7 b (y 0) : ℝ) : EReal) := by
  unfold rowOf
  refine logitArr_at x0 x2 x3 x4 x5 x6 x7 _ b (y 0) ?_
  have hy : (y 0).val < 4096 := (y 0).isLt
  have hb := b.isLt
  show (4096 * b.val + (y 0).val) % 65536 = _
  rw [Nat.mod_eq_of_lt (by omega)]
  ring

/-- The result the run returns: the first lane of the SparseCore call's row. -/
theorem W5_v6 (d : Dev nD) (b : Fin 16) :
    (W5 m d (Proc.devRef .tc main_v6) : S16.Idx → EReal) (ix1 b)
      = taskVal (F := Ideal) (BitVec.ofNat 32 b.val) (m (nLoc d)) (rowOf (G m d) b.val) (ln 0) := by
  unfold W5
  after_results_simp
  pointwise [W3_o]
  rfl

end Cert.Proof.KernelIdeal

end
-- ==== Proof.Math.Bisect.lean ====
/-
  Bisection on naturals: thirty-one halvings of the bracket from 0 to `0x3F800000` leave two neighbours.
-/
module

public import Idealize.ShloMosaic.PureOps.Ideal

@[expose] public section

namespace Cert.Proof.Bisect

variable (cnt : ℕ → ℕ) (k : ℕ)

/-- The bracket after `n` halvings: the middle becomes the lower end when its count is at least `k`, else the upper. -/
def sb : ℕ → ℕ × ℕ
  | 0 => (0, 0x3F800000)
  | n + 1 => if k ≤ cnt (((sb n).1 + (sb n).2) / 2) then (((sb n).1 + (sb n).2) / 2, (sb n).2)
      else ((sb n).1, ((sb n).1 + (sb n).2) / 2)

/-- One more step of the bisection. -/
theorem sb_succ (n : ℕ) : sb cnt k (n + 1) = if k ≤ cnt (((sb cnt k n).1 + (sb cnt k n).2) / 2)
    then (((sb cnt k n).1 + (sb cnt k n).2) / 2, (sb cnt k n).2) else ((sb cnt k n).1, ((sb cnt k n).1 + (sb cnt k n).2) / 2) := rfl

/-- The invariant of the bisection: the ends stay in order, the lower one counts at least `k`, the upper one fewer, and their distance halves. -/
theorem sb_inv (h0 : k ≤ cnt 0) (n : ℕ) (hn : n ≤ 31) :
    (sb cnt k n).1 < (sb cnt k n).2 ∧ (sb cnt k n).2 ≤ 0x3F800000 ∧ k ≤ cnt (sb cnt k n).1
      ∧ ((sb cnt k n).2 = 0x3F800000 ∨ cnt (sb cnt k n).2 < k) ∧ ((sb cnt k n).2 - (sb cnt k n).1 - 1) * 2 ^ n < 2 ^ 31 := by
  induction n with
  | zero => exact ⟨show 0 < 0x3F800000 by decide, le_refl _, h0, Or.inl rfl, show (0x3F800000 - 0 - 1) * 2 ^ 0 < 2 ^ 31 by norm_num⟩
  | succ n ih =>
    obtain ⟨h1, h2, h3, h4, h5⟩ := ih (by omega)
    generalize hs : sb cnt k n = s at *
    have e : sb cnt k (n + 1) = if k ≤ cnt ((s.1 + s.2) / 2) then ((s.1 + s.2) / 2, s.2) else (s.1, (s.1 + s.2) / 2) := by
      rw [← hs]; rfl
    by_cases hlt : s.1 + 1 < s.2
    · rw [e]
      split_ifs with hc
      · refine ⟨by show (s.1 + s.2) / 2 < s.2; omega, h2, hc, h4, ?_⟩
        show (s.2 - (s.1 + s.2) / 2 - 1) * 2 ^ (n + 1) < _
        have : (s.2 - (s.1 + s.2) / 2 - 1) * 2 ≤ s.2 - s.1 - 1 := by omega
        calc _ = ((s.2 - (s.1 + s.2) / 2 - 1) * 2) * 2 ^ n := by rw [pow_succ]; ring
          _ ≤ _ := Nat.mul_le_mul_right _ this
          _ < _ := h5
      · refine ⟨by show s.1 < (s.1 + s.2) / 2; omega, by show (s.1 + s.2) / 2 ≤ _; omega, h3, Or.inr (by show cnt ((s.1 + s.2) / 2) < k; omega), ?_⟩
        show ((s.1 + s.2) / 2 - s.1 - 1) * 2 ^ (n + 1) < _
        have : ((s.1 + s.2) / 2 - s.1 - 1) * 2 ≤ s.2 - s.1 - 1 := by omega
        calc _ = (((s.1 + s.2) / 2 - s.1 - 1) * 2) * 2 ^ n := by rw [pow_succ]; ring
          _ ≤ _ := Nat.mul_le_mul_right _ this
          _ < _ := h5
    · have hm : (s.1 + s.2) / 2 = s.1 := by omega
      have e' : sb cnt k (n + 1) = s := by
        rw [e, hm, if_pos h3]
      rw [e']
      refine ⟨h1, h2, h3, h4, ?_⟩
      have : s.2 - s.1 - 1 = 0 := by omega
      rw [this]; simp

/-- After thirty-one halvings the ends are neighbours; the lower end has count at least `k`, and the upper one either is
    the upper end started from or has a count below `k`. -/
theorem sb_final (h0 : k ≤ cnt 0) :
    (sb cnt k 31).1 < 0x3F800000 ∧ k ≤ cnt (sb cnt k 31).1 ∧ ((sb cnt k 31).1 + 1 = 0x3F800000 ∨ cnt ((sb cnt k 31).1 + 1) < k) := by
  obtain ⟨h1, h2, h3, h4, h5⟩ := sb_inv cnt k h0 31 (le_refl _)
  have : (sb cnt k 31).2 = (sb cnt k 31).1 + 1 := by
    by_contra hne
    have h6 : 1 ≤ (sb cnt k 31).2 - (sb cnt k 31).1 - 1 := by omega
    have := Nat.mul_le_mul_right (2 ^ 31) h6
    omega
  rw [this] at h4 h2
  exact ⟨by omega, h3, h4⟩

/-- The ends stay at or below the first upper end. -/
theorem sb_le (n : ℕ) : (sb cnt k n).1 ≤ 0x3F800000 ∧ (sb cnt k n).2 ≤ 0x3F800000 := by
  induction n with
  | zero => exact ⟨show 0 ≤ 0x3F800000 by decide, le_refl _⟩
  | succ n ih =>
    generalize hs : sb cnt k n = s at *
    have e : sb cnt k (n + 1) = if k ≤ cnt ((s.1 + s.2) / 2) then ((s.1 + s.2) / 2, s.2) else (s.1, (s.1 + s.2) / 2) := by
      rw [← hs]; rfl
    rw [e]
    split_ifs
    · exact ⟨by show (s.1 + s.2) / 2 ≤ _; omega, ih.2⟩
    · exact ⟨ih.1, by show (s.1 + s.2) / 2 ≤ _; omega⟩

end Cert.Proof.Bisect
-- ==== Proof.Math.Words.lean ====
/-
  The binary32 words from 0 to 1.0 as real numbers: their values grow with the word, and every `m · 2^-p` with `m < 2^24`
  and `24 ≤ p ≤ 149` is one of them.
-/
module

public import Idealize.ShloMosaic.PureOps.Ideal

@[expose] public section

noncomputable section

namespace Cert.Proof.Words

open Idealize.ShloMosaic

/-- The value of the binary32 word `w` (sign 0, not an infinity or a NaN). -/
def fval (w : ℕ) : ℝ :=
  if w / 2 ^ 23 = 0 then ((w % 2 ^ 23 : ℕ) : ℝ) * (2 : ℝ) ^ (-149 : ℤ)
  else ((2 ^ 23 + w % 2 ^ 23 : ℕ) : ℝ) * (2 : ℝ) ^ (((w / 2 ^ 23 : ℕ) : ℤ) - 150)

/-- What the ideal instance reads the word as. -/
theorem ofBits_word (w : ℕ) (hw : w ≤ 0x3F800000) : Ideal.ofBits .f32 (BitVec.ofNat 32 w) = ((fval w : ℝ) : EReal) := by
  have hex : ((BitVec.ofNat 32 w).extractLsb' 23 8).toNat = w / 2 ^ 23 := by
    simp only [BitVec.extractLsb'_toNat, BitVec.toNat_ofNat, Nat.shiftRight_eq_div_pow]
    omega
  have hfr : ((BitVec.ofNat 32 w).extractLsb' 0 23).toNat = w % 2 ^ 23 := by
    simp only [BitVec.extractLsb'_toNat, BitVec.toNat_ofNat, Nat.shiftRight_eq_div_pow]
    omega
  have hneg : ((BitVec.ofNat 32 w).extractLsb' (8 + 23) 1 == 1#1) = false := by
    have : ((BitVec.ofNat 32 w).extractLsb' (8 + 23) 1).toNat = 0 := by
      simp only [BitVec.extractLsb'_toNat, BitVec.toNat_ofNat, Nat.shiftRight_eq_div_pow]
      omega
    rw [beq_eq_false_iff_ne]
    intro h
    rw [h] at this
    exact absurd this (by decide)
  simp only [Ideal.ofBits, Ideal.ieee, hex, hfr, hneg, Bool.false_eq_true, if_false]
  have h1 : ¬ (w / 2 ^ 23 = 2 ^ 8 - 1) := by omega
  rw [if_neg h1]
  unfold fval
  split_ifs with h
  · rw [one_mul]; norm_num
  · rw [one_mul]
    congr 3
    push_cast; ring

/-- The zero word is the float zero. -/
theorem fval_zero : fval 0 = 0 := by simp [fval]

/-- These floats are nonnegative. -/
theorem fval_nonneg (w : ℕ) : 0 ≤ fval w := by unfold fval; split_ifs <;> positivity

/-- The values grow with the word. -/
theorem fval_mono : Monotone fval := by
  refine monotone_nat_of_le_succ fun w => ?_
  have h2 : (0 : ℝ) < (2 : ℝ) ^ (-149 : ℤ) := by positivity
  unfold fval
  by_cases hc : w % 2 ^ 23 = 2 ^ 23 - 1
  · have e1 : (w + 1) / 2 ^ 23 = w / 2 ^ 23 + 1 := by omega
    have e2 : (w + 1) % 2 ^ 23 = 0 := by omega
    rw [e1, e2, hc, if_neg (Nat.succ_ne_zero _)]
    split_ifs with h
    · rw [h]
      norm_num
    · have : (2 : ℝ) ^ (((w / 2 ^ 23 + 1 : ℕ) : ℤ) - 150) = 2 * (2 : ℝ) ^ (((w / 2 ^ 23 : ℕ) : ℤ) - 150) := by
        rw [← zpow_one_add₀ (by norm_num)]; congr 1; push_cast; ring
      rw [this]
      have h3 : (0 : ℝ) < (2 : ℝ) ^ (((w / 2 ^ 23 : ℕ) : ℤ) - 150) := by positivity
      generalize (2 : ℝ) ^ (((w / 2 ^ 23 : ℕ) : ℤ) - 150) = z at h3 ⊢
      norm_num
      nlinarith
  · have e1 : (w + 1) / 2 ^ 23 = w / 2 ^ 23 := by omega
    have e2 : (w + 1) % 2 ^ 23 = w % 2 ^ 23 + 1 := by omega
    rw [e1, e2]
    split_ifs with h
    · refine mul_le_mul_of_nonneg_right ?_ h2.le
      exact_mod_cast Nat.le_succ _
    · refine mul_le_mul_of_nonneg_right ?_ (by positivity)
      exact_mod_cast Nat.le_succ _

/-- Every `m · 2^-p` with `m < 2^24` and `24 ≤ p ≤ 149` is the value of a word below 1.0's. -/
theorem exists_word (m p : ℕ) (hm : m < 2 ^ 24) (hp : 24 ≤ p) (hp' : p ≤ 149) :
    ∃ w, w < 0x3F800000 ∧ fval w = (m : ℝ) * (2 : ℝ) ^ (-(p : ℤ)) := by
  rcases Nat.eq_zero_or_pos m with h0 | h0
  · exact ⟨0, by norm_num, by simp [fval_zero, h0]⟩
  have hb1 : 2 ^ Nat.log2 m ≤ m := Nat.log2_self_le h0.ne'
  have hb2 : m < 2 ^ (Nat.log2 m + 1) := Nat.lt_log2_self
  obtain ⟨b, hb⟩ : ∃ b, b = Nat.log2 m := ⟨_, rfl⟩
  rw [← hb] at hb1 hb2
  have hb24 : b < 24 := by
    by_contra hcon
    have : 2 ^ 24 ≤ 2 ^ b := Nat.pow_le_pow_right (by norm_num) (by omega)
    omega
  obtain ⟨s, hs⟩ : ∃ s, b + s = 23 := ⟨23 - b, by omega⟩
  have hlo : 2 ^ 23 ≤ m * 2 ^ s := by
    rw [← hs, pow_add]; exact Nat.mul_le_mul_right _ hb1
  have hhi : m * 2 ^ s < 2 ^ 24 := by
    have : (2 : ℕ) ^ 24 = 2 ^ (b + 1) * 2 ^ s := by rw [← pow_add]; congr 1; omega
    rw [this]; exact Nat.mul_lt_mul_of_pos_right hb2 (by positivity)
  by_cases hps : p + s ≤ 149
  · refine ⟨(150 - (p + s)) * 2 ^ 23 + (m * 2 ^ s - 2 ^ 23), by omega, ?_⟩
    have hd : ((150 - (p + s)) * 2 ^ 23 + (m * 2 ^ s - 2 ^ 23)) / 2 ^ 23 = 150 - (p + s) := by omega
    have hr : ((150 - (p + s)) * 2 ^ 23 + (m * 2 ^ s - 2 ^ 23)) % 2 ^ 23 = m * 2 ^ s - 2 ^ 23 := by omega
    unfold fval
    rw [hd, hr, if_neg (by omega), show 2 ^ 23 + (m * 2 ^ s - 2 ^ 23) = m * 2 ^ s by omega]
    rw [Nat.cast_mul, Nat.cast_pow, Nat.cast_ofNat, mul_assoc, ← zpow_natCast (2 : ℝ) s, ← zpow_add₀ (by norm_num),
      show ((s : ℕ) : ℤ) + (((150 - (p + s) : ℕ) : ℤ) - 150) = -(p : ℤ) by omega]
  · refine ⟨m * 2 ^ (149 - p), ?_, ?_⟩
    · have hlt : m * 2 ^ (149 - p) < 2 ^ 23 := by
        have h1 : 2 ^ (149 - p) * 2 ≤ 2 ^ s := by rw [← pow_succ]; exact Nat.pow_le_pow_right (by norm_num) (by omega)
        have h2 : m * 2 ^ (149 - p) * 2 ≤ m * 2 ^ s := by rw [mul_assoc]; exact Nat.mul_le_mul_left _ h1
        omega
      omega
    · have hlt : m * 2 ^ (149 - p) < 2 ^ 23 := by
        have h1 : 2 ^ (149 - p) * 2 ≤ 2 ^ s := by rw [← pow_succ]; exact Nat.pow_le_pow_right (by norm_num) (by omega)
        have h2 : m * 2 ^ (149 - p) * 2 ≤ m * 2 ^ s := by rw [mul_assoc]; exact Nat.mul_le_mul_left _ h1
        omega
      unfold fval
      rw [if_pos (Nat.div_eq_of_lt hlt), Nat.mod_eq_of_lt hlt]
      rw [Nat.cast_mul, Nat.cast_pow, Nat.cast_ofNat, mul_assoc, ← zpow_natCast (2 : ℝ) (149 - p), ← zpow_add₀ (by norm_num),
        show (((149 - p : ℕ) : ℕ) : ℤ) + (-149 : ℤ) = -(p : ℤ) by omega]

end Cert.Proof.Words

end
-- ==== Proof.Math.Select.lean ====
/-
  The sum of a row's `k` greatest entries from a threshold that separates them from the rest, and when a threshold found
  by counting does separate them.
-/
module

public import proofs.«01_k».proof.Proof.Math.Words

@[expose] public section

noncomputable section

namespace Cert.Proof.Select

open Cert.Proof.Words

variable {N : ℕ} (L : ℕ) (r : Fin N → ℝ)

/-- The row with every position at or past `L` at `-∞`. -/
def masked (y : Fin N) : EReal := if y.val < L then (r y : EReal) else ⊥
/-- The row with every position at or past `L` at `-1`. -/
def floored (y : Fin N) : ℝ := if y.val < L then r y else -1
/-- How many entries are at least `t`. -/
def count (t : ℝ) : ℕ := (Finset.univ.filter fun y : Fin N => t ≤ floored L r y).card

/-- For a nonnegative threshold, `-1` and `-∞` fail the test alike. -/
theorem le_floored_iff (t : ℝ) (ht : 0 ≤ t) (y : Fin N) : t ≤ floored L r y ↔ (t : EReal) ≤ masked L r y := by
  unfold floored masked
  split_ifs
  · exact EReal.coe_le_coe_iff.symm
  · constructor
    · intro h; linarith
    · intro h; exact absurd (le_bot_iff.mp h) (EReal.coe_ne_bot t)

variable (σ : Equiv.Perm (Fin N)) (hσ : ∀ i j, i ≤ j → masked L r (σ j) ≤ masked L r (σ i))

include hσ in
/-- The first `L` of the sorted row are the positions below `L`. -/
theorem valid_first (hL : L ≤ N) (i : Fin N) (hi : i.val < L) : (σ i).val < L := by
  by_contra hc
  have hbot : ∀ j, i ≤ j → ¬ (σ j).val < L := by
    intro j hj hlt
    have h := hσ i j hj
    unfold masked at h
    rw [if_pos hlt, if_neg hc] at h
    exact absurd (le_bot_iff.mp h) (EReal.coe_ne_bot _)
  have h1 : (Finset.Ici i).card ≤ (Finset.univ.filter fun j : Fin N => ¬ (σ j).val < L).card :=
    Finset.card_le_card fun j hj => by
      rw [Finset.mem_filter]; exact ⟨Finset.mem_univ _, hbot j (Finset.mem_Ici.mp hj)⟩
  have h2 : (Finset.univ.filter fun j : Fin N => ¬ (σ j).val < L).card = (Finset.univ.filter fun y : Fin N => ¬ y.val < L).card := by
    refine Finset.card_bij (fun j _ => σ j) ?_ ?_ ?_
    · intro j hj; simpa using hj
    · intro a _ b _ h; exact σ.injective h
    · intro b hb; exact ⟨σ.symm b, by simpa using hb, by simp⟩
  have h3 : (Finset.univ.filter fun y : Fin N => ¬ y.val < L).card = N - L := by
    have h4 := Finset.card_filter_add_card_filter_not (s := (Finset.univ : Finset (Fin N))) (fun y : Fin N => y.val < L)
    rw [Finset.card_univ, Fintype.card_fin] at h4
    have h5 : (Finset.univ.filter fun y : Fin N => y.val < L).card = L := by
      rw [Fin.card_filter_val_lt]; omega
    omega
  rw [h2, h3, Fin.card_Ici] at h1
  have := i.isLt
  omega

include hσ in
/-- At least `k` entries reach a threshold exactly if the `k`-th greatest does. -/
theorem le_count_iff (t : ℝ) (ht : 0 ≤ t) (k : ℕ) (hk : 1 ≤ k) (hkN : k - 1 < N) :
    k ≤ count L r t ↔ (t : EReal) ≤ masked L r (σ ⟨k - 1, hkN⟩) := by
  have hc : count L r t = (Finset.univ.filter fun i : Fin N => (t : EReal) ≤ masked L r (σ i)).card := by
    unfold count
    refine (Finset.card_bij (fun j _ => σ j) ?_ ?_ ?_).symm
    · intro j hj; simpa [le_floored_iff L r t ht] using hj
    · intro a _ b _ h; exact σ.injective h
    · intro b hb; exact ⟨σ.symm b, by simpa [le_floored_iff L r t ht] using hb, by simp⟩
  rw [hc]
  constructor
  · intro h
    by_contra hlt
    have hsub : (Finset.univ.filter fun i : Fin N => (t : EReal) ≤ masked L r (σ i)) ⊆ Finset.Iio ⟨k - 1, hkN⟩ := by
      intro i hi
      rw [Finset.mem_filter] at hi
      rw [Finset.mem_Iio]
      by_contra hge
      exact hlt (hi.2.trans (hσ _ _ (not_lt.mp hge)))
    have := Finset.card_le_card hsub
    rw [Fin.card_Iio] at this
    simp only at this
    omega
  · intro h
    have hsub : Finset.Iic ⟨k - 1, hkN⟩ ⊆ (Finset.univ.filter fun i : Fin N => (t : EReal) ≤ masked L r (σ i)) := by
      intro i hi
      rw [Finset.mem_filter]
      exact ⟨Finset.mem_univ _, h.trans (hσ _ _ (Finset.mem_Iic.mp hi))⟩
    have := Finset.card_le_card hsub
    rw [Fin.card_Iic] at this
    simp only at this
    omega

include hσ in
/-- With a threshold between the `k`-th and the `k+1`-th greatest, the sum of the `k` greatest is the sum of the entries
    above it and the threshold once for each of the remaining ones. -/
theorem sum_top (hL : L ≤ N) (k : ℕ) (hk : 1 ≤ k) (hkL : k < L) (xk : ℝ) (h0 : 0 ≤ xk)
    (ha : (xk : EReal) ≤ masked L r (σ ⟨k - 1, by omega⟩)) (hb : masked L r (σ ⟨k, by omega⟩) ≤ (xk : EReal)) :
    (∑ i : Fin N, if i.val < k then r (σ i) else 0)
      = (∑ y : Fin N, if xk < floored L r y then floored L r y else 0)
        + ((k : ℝ) - ((Finset.univ.filter fun y : Fin N => xk < floored L r y).card : ℝ)) * xk := by
  have e1 : (∑ y : Fin N, if xk < floored L r y then floored L r y else 0)
      = ∑ i : Fin N, if xk < floored L r (σ i) then floored L r (σ i) else 0 :=
    (Equiv.sum_comp σ fun y => if xk < floored L r y then floored L r y else 0).symm
  have e2 : ((Finset.univ.filter fun y : Fin N => xk < floored L r y).card : ℝ)
      = ∑ i : Fin N, if xk < floored L r (σ i) then (1 : ℝ) else 0 := by
    rw [Equiv.sum_comp σ fun y => if xk < floored L r y then (1 : ℝ) else 0]
    simp
  have e3 : (k : ℝ) = ∑ i : Fin N, if i.val < k then (1 : ℝ) else 0 := by
    rw [Finset.sum_boole, Fin.card_filter_val_lt, min_eq_right (by omega)]
  rw [e1, e2, e3, ← Finset.sum_sub_distrib, Finset.sum_mul, ← Finset.sum_add_distrib]
  refine Finset.sum_congr rfl fun i _ => ?_
  by_cases hi : i.val < k
  · have hv : (σ i).val < L := valid_first L r σ hσ hL i (by omega)
    have hm : (xk : EReal) ≤ masked L r (σ i) := ha.trans (hσ i ⟨k - 1, by omega⟩ (Fin.le_def.mpr (by simp only; omega)))
    unfold masked at hm
    rw [if_pos hv, EReal.coe_le_coe_iff] at hm
    have hf : floored L r (σ i) = r (σ i) := if_pos hv
    rw [if_pos hi, if_pos hi, hf]
    split_ifs with hlt
    · ring
    · have : r (σ i) = xk := le_antisymm (not_lt.mp hlt) hm
      rw [this]; ring
  · have hm : masked L r (σ i) ≤ (xk : EReal) := (hσ ⟨k, by omega⟩ i (Fin.le_def.mpr (by simp only; omega))).trans hb
    have hnot : ¬ xk < floored L r (σ i) := by
      unfold masked at hm
      unfold floored
      split_ifs at hm ⊢ with hv
      · rw [EReal.coe_le_coe_iff] at hm; exact not_lt.mpr hm
      · linarith
    rw [if_neg hi, if_neg hi, if_neg hnot, if_neg hnot]
    ring

include hσ in
/-- A word at which at least `k` entries are counted, and the next word at which fewer are (or which is 1.0), separates the
    `k` greatest from the rest, if any word below 1.0 does. -/
theorem separates (k : ℕ) (hk : 1 ≤ k) (hkN : k < N) (lo : ℕ) (hlo : k ≤ count L r (fval lo))
    (hnext : lo + 1 = 0x3F800000 ∨ count L r (fval (lo + 1)) < k)
    (w : ℕ) (hw : w < 0x3F800000) (hwa : (fval w : EReal) ≤ masked L r (σ ⟨k - 1, by omega⟩))
    (hwb : masked L r (σ ⟨k, hkN⟩) ≤ (fval w : EReal)) :
    (fval lo : EReal) ≤ masked L r (σ ⟨k - 1, by omega⟩) ∧ masked L r (σ ⟨k, hkN⟩) ≤ (fval lo : EReal) := by
  refine ⟨(le_count_iff L r σ hσ (fval lo) (fval_nonneg lo) k hk (by omega)).mp hlo, hwb.trans (EReal.coe_le_coe_iff.mpr (fval_mono ?_))⟩
  by_contra hlt
  have h1 : lo + 1 ≤ w := by omega
  rcases hnext with h | h
  · omega
  · have h2 := (le_count_iff L r σ hσ (fval (lo + 1)) (fval_nonneg _) k hk (by omega)).mpr
      ((EReal.coe_le_coe_iff.mpr (fval_mono h1)).trans hwa)
    omega

end Cert.Proof.Select

end
-- ==== Proof.KernelIdeal.ScVal.lean ====
/-
  What the SparseCore task computes, at the ideal instance: on a row of nonnegative reals, the mean of the `k` greatest
  of the first `L` entries, `k = L / 16 + 1`, provided some threshold word separates the `k`-th from the next.
-/
module

public import proofs.«01_k».proof.Proof.Math.Sums
public import proofs.«01_k».proof.Proof.Math.Bisect
public import proofs.«01_k».proof.Proof.Math.Select
public import Idealize.ShloMosaic.Lib.WordCmp

@[expose] public section

noncomputable section

namespace Cert.Proof.KernelIdeal

open Cert.KernelIdeal Cert.KernelIdeal.Gen
open Idealize.ShloMosaic Idealize.ShloMosaic.WordCmp
open Cert.Proof.Words Cert.Proof.Select Cert.Proof.Bisect

/-- The four rotations of integer lanes leave in every lane the sum of all sixteen, -/
theorem rotI_sum (a : IVec S16 32) (x : S16.Idx) : rotI a x = ∑ i ∈ Finset.range 16, a (ln i) := rot_all a x

/-- and those of float lanes too. -/
theorem rotF_sum (a : FVec Ideal S16 .f32) (x : S16.Idx) : rotF a x = ∑ i ∈ Finset.range 16, (a (ln i) : EReal) :=
  rot_all (M := EReal) a x

/-- The length of row `b` on every lane. -/
theorem lenV_eq (b : ℕ) (hb : b < 16) (n : IVec S16 32) (x : S16.Idx) : lenV (BitVec.ofNat 32 b) n x = n (ln b) := by
  unfold lenV
  rw [rotI_sum]
  have e : ∀ i ∈ Finset.range 16, lenSel (BitVec.ofNat 32 b) n (ln i) = if i = b then n (ln i) else 0 := by
    intro i hi
    have hi := Finset.mem_range.mp hi
    have h1 : lanes (ln i) = BitVec.ofNat 32 i := by
      show BitVec.ofNat 32 _ = _
      congr 1
      show (0 * 16 + i % 16) = i
      omega
    show Scalar.select (IntOp.cmpi .eq (lanes (ln i)) (BitVec.ofNat 32 b)) (n (ln i)) 0#32 = _
    rw [h1, cmpi_eq_ofNat (by omega) (by omega), select_decide]
    rfl
  rw [Finset.sum_congr rfl e, Finset.sum_ite_eq' (Finset.range 16) b (fun i => n (ln i)), if_pos (Finset.mem_range.mpr hb)]

/-- `k` of a row of length `L` is `L / 16 + 1`. -/
theorem kOf_eq (Lv : IVec S16 32) (L : ℕ) (hL : L ≤ 4096) (hLv : ∀ x, Lv x = BitVec.ofNat 32 L) (x : S16.Idx) :
    kOf Lv x = BitVec.ofNat 32 (L / 16 + 1) := by
  show (IntOp.shrsi _ (Lv x) 4#32) + 1#32 = _
  rw [hLv]
  have h1 : BitVec.ofNat 32 (L / 16 + 1) = BitVec.ofNat 32 (L / 16) + 1#32 := by
    rw [BitVec.ofNat_add]
  rw [h1]
  congr 1
  show (BitVec.ofNat 32 L).sshiftRight 4 = _
  apply BitVec.eq_of_toNat_eq
  rw [BitVec.toNat_sshiftRight_of_msb_false, BitVec.toNat_ofNat, BitVec.toNat_ofNat, Nat.shiftRight_eq_div_pow,
    Nat.mod_eq_of_lt (by omega), Nat.mod_eq_of_lt (by omega)]
  rw [BitVec.msb_eq_false_iff_two_mul_lt, BitVec.toNat_ofNat]
  omega

/-- The zero word is zero. -/
theorem ofBits_zero_f32' : Idealize.ShloMosaic.Ideal.ofBits .f32 0x00000000#32 = 0 := by
  simp [Idealize.ShloMosaic.Ideal.ofBits, Idealize.ShloMosaic.Ideal.ieee]

variable (L : ℕ) (r : Fin 4096 → ℝ)

/-- The row after the masking loop: the entries before the length, then `-1`. -/
theorem maskTo_eq (Lv : IVec S16 32) (hL : L ≤ 4096) (hLv : ∀ x, Lv x = BitVec.ofNat 32 L) (f : Vec Ideal S4096 .f32)
    (hf : ∀ y, f y = ((r (y 0) : ℝ) : EReal)) (y : S4096.Idx) : maskTo Lv 4096 f y = ((floored L r (y 0) : ℝ) : EReal) := by
  have hy : (y 0).val < 4096 := (y 0).isLt
  unfold maskTo
  rw [if_pos hy, hLv, cmpi_slt_ofNat (by omega) (by omega), select_decide, hf]
  unfold floored
  split_ifs
  · rfl
  · show Ideal.ofBits .f32 0xBF800000#32 = _
    simp [Ideal.ofBits, Ideal.ieee, -EReal.coe_mul]
    try norm_num

variable (v : Fin 4096 → ℝ) (f : Vec Ideal S4096 .f32) (hf : ∀ y, f y = ((v (y 0) : ℝ) : EReal))

/-- Position `n` of the row, as an index below 4096. -/
def pf (n : ℕ) : Fin 4096 := ⟨n % 4096, Nat.mod_lt _ (by decide)⟩

/-- A position is the position of its number. -/
theorem pf_val (y : Fin 4096) : pf y.val = y := Fin.ext (Nat.mod_eq_of_lt y.isLt)

/-- A sum over the first 4096 numbers is a sum over the positions. -/
theorem sum_pf {M : Type} [AddCommMonoid M] (h : Fin 4096 → M) : ∑ y ∈ Finset.range 4096, h (pf y) = ∑ y : Fin 4096, h y := by
  rw [← Fin.sum_univ_eq_sum_range (fun y => h (pf y))]
  exact Finset.sum_congr rfl fun y _ => by rw [pf_val]

/-- Lane totals of a sum over the trips and chunks are the sum over the row. -/
theorem lane_total {M : Type} [AddCommMonoid M] (a : S16.Idx → M) (h : Fin 4096 → M)
    (e : ∀ x, a x = ∑ j ∈ Finset.range 16, ∑ u ∈ Finset.range 16, h (pf (256 * j + 16 * u + (x 0).val))) :
    ∑ l ∈ Finset.range 16, a (ln l) = ∑ y : Fin 4096, h y := by
  rw [← sum_pf h, ← sum_lanes (fun y => h (pf y))]
  refine Finset.sum_congr rfl fun l hl => ?_
  have e1 : ((ln l) 0).val = l := Nat.mod_eq_of_lt (Finset.mem_range.mp hl)
  rw [e, e1]

include hf in
/-- A lane that tests an entry against a threshold: 1 if the entry is at least it, -/
theorem indGe_eq (t : FVec Ideal S16 .f32) (τ : ℝ) (ht : ∀ x, t x = (τ : EReal)) (b : ℕ) (x : S16.Idx) :
    indGe f t b x = if τ ≤ v (pf (b + (x 0).val)) then 1#32 else 0#32 := by
  show Scalar.select (Ideal.cmp .oge (f (px (b + (x 0).val))) (t x)) 1#32 0#32 = _
  rw [hf, ht]
  show Scalar.select (BitVec.ofBool (decide ((τ : EReal) ≤ (v (pf (b + (x 0).val)) : EReal)))) 1#32 0#32 = _
  rw [select_decide]
  simp only [EReal.coe_le_coe_iff]

include hf in
/-- 1 if it is above it, -/
theorem indGt_eq (t : FVec Ideal S16 .f32) (τ : ℝ) (ht : ∀ x, t x = (τ : EReal)) (b : ℕ) (x : S16.Idx) :
    indGt f t b x = if τ < v (pf (b + (x 0).val)) then 1#32 else 0#32 := by
  show Scalar.select (Ideal.cmp .ogt (f (px (b + (x 0).val))) (t x)) 1#32 0#32 = _
  rw [hf, ht]
  show Scalar.select (BitVec.ofBool (decide ((τ : EReal) < (v (pf (b + (x 0).val)) : EReal)))) 1#32 0#32 = _
  rw [select_decide]
  simp only [EReal.coe_lt_coe_iff]

include hf in
/-- and the entry itself if it is above it. -/
theorem valGt_eq (t : FVec Ideal S16 .f32) (τ : ℝ) (ht : ∀ x, t x = (τ : EReal)) (b : ℕ) (x : S16.Idx) :
    valGt f t b x = ((if τ < v (pf (b + (x 0).val)) then v (pf (b + (x 0).val)) else 0 : ℝ) : EReal) := by
  show Scalar.select (Ideal.cmp .ogt (f (px (b + (x 0).val))) (t x)) (f (px (b + (x 0).val))) (Ideal.ofBits .f32 0x00000000#32) = _
  rw [hf, ht, ofBits_zero_f32']
  show Scalar.select (BitVec.ofBool (decide ((τ : EReal) < (v (pf (b + (x 0).val)) : EReal)))) ((v (pf (b + (x 0).val)) : ℝ) : EReal) 0 = _
  rw [select_decide]
  simp only [EReal.coe_lt_coe_iff]
  split_ifs <;> rfl

/-- The four counters' sum after `n` trips, as a double sum. -/
theorem cnts_sum (t : FVec Ideal S16 .f32) (n : ℕ) (x : S16.Idx) :
    ((cnts f t n).1 x + (cnts f t n).2.1 x) + ((cnts f t n).2.2.1 x + (cnts f t n).2.2.2 x)
      = ∑ j ∈ Finset.range n, ∑ u ∈ Finset.range 16, indGe f t (256 * j + 16 * u) x := by
  induction n with
  | zero => simp [cnts, broadcast]
  | succ n ih =>
    rw [Finset.sum_range_succ, ← ih]
    have e : cnts f t (n + 1) = cntTrip f t n (cnts f t n) := rfl
    rw [e]
    generalize cnts f t n = c
    simp only [cntTrip, Finset.sum_range_succ, Finset.sum_range_zero, zero_add, addi, IntOp.addi]
    abel

include hf in
/-- The count of the elements at least `τ`, on every lane. -/
theorem cnt_all (t : FVec Ideal S16 .f32) (τ : ℝ) (ht : ∀ x, t x = (τ : EReal)) (x : S16.Idx) :
    rotI (cntV f t) x = BitVec.ofNat 32 (Finset.univ.filter fun y => τ ≤ v y).card := by
  have h := lane_total (cntV f t) (fun y => if τ ≤ v y then 1#32 else 0#32) (fun x => (cnts_sum f t 16 x).trans
    (Finset.sum_congr rfl fun j _ => Finset.sum_congr rfl fun u _ => indGe_eq v f hf t τ ht _ x))
  exact (rotI_sum _ x).trans (h.trans (sum_ind _ _ (by simp)))

/-- The last loop's counter after `n` trips, as a double sum, -/
theorem fin_cnt_sum (t : FVec Ideal S16 .f32) (n : ℕ) (x : S16.Idx) :
    (fin f t n).1 x = ∑ j ∈ Finset.range n, ∑ u ∈ Finset.range 16, indGt f t (256 * j + 16 * u) x := by
  induction n with
  | zero => simp [fin, broadcast]
  | succ n ih =>
    rw [Finset.sum_range_succ, ← ih]
    exact accR_sum (M := BitVec 32) (indGt f t) n (fin f t n).1 16 x

/-- and its running sum. -/
theorem fin_val_sum (t : FVec Ideal S16 .f32) (n : ℕ) (x : S16.Idx) :
    ((fin f t n).2 x : EReal) = ∑ j ∈ Finset.range n, ∑ u ∈ Finset.range 16, (valGt f t (256 * j + 16 * u) x : EReal) := by
  induction n with
  | zero => exact ofBits_zero_f32'
  | succ n ih =>
    rw [Finset.sum_range_succ, ← ih]
    exact accR_sum (M := EReal) (valGt f t) n (fin f t n).2 16 x

include hf in
/-- The number of elements above `τ`, on every lane. -/
theorem fin_cnt_all (t : FVec Ideal S16 .f32) (τ : ℝ) (ht : ∀ x, t x = (τ : EReal)) (x : S16.Idx) :
    rotI (fin f t 16).1 x = BitVec.ofNat 32 (Finset.univ.filter fun y => τ < v y).card := by
  have h := lane_total (M := BitVec 32) (fin f t 16).1 (fun y => if τ < v y then 1#32 else 0#32) (fun x => (fin_cnt_sum f t 16 x).trans
    (Finset.sum_congr rfl fun j _ => Finset.sum_congr rfl fun u _ => indGt_eq v f hf t τ ht _ x))
  exact (rotI_sum _ x).trans (h.trans (sum_ind _ _ (by simp)))

include hf in
/-- The sum of the elements above `τ`, on every lane. -/
theorem fin_val_all (t : FVec Ideal S16 .f32) (τ : ℝ) (ht : ∀ x, t x = (τ : EReal)) (x : S16.Idx) :
    (rotF (fin f t 16).2 x : EReal) = ((∑ y : Fin 4096, if τ < v y then v y else 0 : ℝ) : EReal) := by
  have h := lane_total (M := EReal) (fin f t 16).2 (fun y => ((if τ < v y then v y else 0 : ℝ) : EReal)) (fun x => (fin_val_sum f t 16 x).trans
    (Finset.sum_congr rfl fun j _ => Finset.sum_congr rfl fun u _ => valGt_eq v f hf t τ ht _ x))
  exact (rotF_sum _ x).trans (h.trans (coe_sum _ _).symm)

/-- The middle of two words, computed on words. -/
theorem mid_word (a b : ℕ) (ha : a ≤ 0x3F800000) (hb : b ≤ 0x3F800000) :
    IntOp.shrsi .vector (IntOp.addi (BitVec.ofNat 32 a) (BitVec.ofNat 32 b)) 1#32 = BitVec.ofNat 32 ((a + b) / 2) := by
  rw [addi_ofNat]
  show (BitVec.ofNat 32 (a + b)).sshiftRight 1 = _
  apply BitVec.eq_of_toNat_eq
  rw [BitVec.toNat_sshiftRight_of_msb_false, BitVec.toNat_ofNat, BitVec.toNat_ofNat, Nat.shiftRight_eq_div_pow,
    Nat.mod_eq_of_lt (by omega), Nat.mod_eq_of_lt (by omega)]
  rw [BitVec.msb_eq_false_iff_two_mul_lt, BitVec.toNat_ofNat]
  omega

/-- The lower end after one step of the bisection, -/
theorem bisStep_fst (kv : IVec S16 32) (c : IVec S16 32 × IVec S16 32) (a : IVec S16 32) (x : S16.Idx)
    (ha : rotI (cntV f (bitcastToFloat .f32 (midOf c))) = a) :
    (bisStep f kv c).1 x = Scalar.select (IntOp.cmpi .sge (a x) (kv x)) (midOf c x) (c.1 x) := by
  unfold bisStep; rw [ha]; rfl

/-- and the upper end. -/
theorem bisStep_snd (kv : IVec S16 32) (c : IVec S16 32 × IVec S16 32) (a : IVec S16 32) (x : S16.Idx)
    (ha : rotI (cntV f (bitcastToFloat .f32 (midOf c))) = a) :
    (bisStep f kv c).2 x = Scalar.select (IntOp.cmpi .sge (a x) (kv x)) (c.2 x) (midOf c x) := by
  unfold bisStep; rw [ha]; rfl

/-- A lane of the final vector, from the count and the sum above the threshold. -/
theorem outOf_at (kv : IVec S16 32) (xk : FVec Ideal S16 .f32) (c : IVec S16 32 × FVec Ideal S16 .f32) (x : S16.Idx)
    (a : IVec S16 32) (ha : rotI c.1 = a) (b : FVec Ideal S16 .f32) (hb : rotF c.2 = b) :
    outOf kv xk c x = Ideal.div ((b x : EReal) + (((kv x - a x).toInt : ℝ) : EReal) * xk x) (((kv x).toInt : ℝ) : EReal) := by
  unfold outOf; rw [ha, hb]; rfl

include hf in
/-- The vector bisection is the bisection on naturals, on every lane. -/
theorem bis_eq (cnt : ℕ → ℕ) (hcnt : ∀ w, cnt w = (Finset.univ.filter fun y => fval w ≤ v y).card) (kv : IVec S16 32) (k : ℕ) (hk : k < 2 ^ 31) (hkv : ∀ x, kv x = BitVec.ofNat 32 k) (n : ℕ) (x : S16.Idx) :
    (bis f kv n).1 x = BitVec.ofNat 32 (sb cnt k n).1
      ∧ (bis f kv n).2 x = BitVec.ofNat 32 (sb cnt k n).2 := by
  induction n generalizing x with
  | zero => exact ⟨rfl, rfl⟩
  | succ n ih =>
    have hb := sb_le cnt k n
    rw [sb_succ]
    generalize sb cnt k n = s at *
    have eb : bis f kv (n + 1) = bisStep f kv (bis f kv n) := rfl
    rw [eb]
    generalize bis f kv n = c at *
    have hm : ∀ x, midOf c x = BitVec.ofNat 32 ((s.1 + s.2) / 2) := by
      intro x
      show IntOp.shrsi .vector (IntOp.addi (c.1 x) (c.2 x)) 1#32 = _
      rw [(ih x).1, (ih x).2, mid_word _ _ hb.1 hb.2]
    have hc := cnt_all v f hf (bitcastToFloat .f32 (midOf c)) (fval ((s.1 + s.2) / 2)) (fun x => by
      show Ideal.ofBits .f32 (midOf c x) = _
      rw [hm, ofBits_word _ (by omega)]) x
    rw [← hcnt] at hc
    have hcard : (Finset.univ.filter fun y : Fin 4096 => fval ((s.1 + s.2) / 2) ≤ v y).card ≤ 4096 :=
      (Finset.card_filter_le _ _).trans (by simp)
    rw [← hcnt] at hcard
    constructor
    · rw [bisStep_fst f kv c _ x rfl, hc, hkv, cmpi_sge_ofNat (by omega) (by omega), select_decide, hm, (ih x).1]
      split_ifs <;> rfl
    · rw [bisStep_snd f kv c _ x rfl, hc, hkv, cmpi_sge_ofNat (by omega) (by omega), select_decide, hm, (ih x).2]
      split_ifs <;> rfl

/-- The difference of two small words is the difference of their numbers. -/
theorem sub_toInt (a b : ℕ) (ha : a ≤ 4096) (hb : b ≤ 4096) : (BitVec.ofNat 32 a - BitVec.ofNat 32 b).toInt = (a : ℤ) - b := by
  rw [BitVec.toInt_sub, toInt_ofNat_of_lt (by omega), toInt_ofNat_of_lt (by omega)]
  exact Int.bmod_eq_of_le (by norm_num; omega) (by norm_num; omega)

/-- The task's result on a row of nonnegative reals of which the first `L` count: the mean of the `k` greatest, given a
    word `w` whose value lies between the `k`-th greatest and the next. -/
theorem taskVal_eq (b : ℕ) (hb : b < 16) (n : IVec S16 32) (hL : 16 ≤ L) (hL' : L ≤ 4096) (hn : n (ln b) = BitVec.ofNat 32 L)
    (f : Vec Ideal S4096 .f32) (hf : ∀ y, f y = ((r (y 0) : ℝ) : EReal)) (hr : ∀ y, 0 ≤ r y)
    (σ : Equiv.Perm (Fin 4096)) (hσ : ∀ i j, i ≤ j → masked L r (σ j) ≤ masked L r (σ i))
    (w : ℕ) (hw : w < 0x3F800000) (hwa : (fval w : EReal) ≤ masked L r (σ ⟨L / 16, by omega⟩))
    (hwb : masked L r (σ ⟨L / 16 + 1, by omega⟩) ≤ (fval w : EReal)) (x : S16.Idx) :
    taskVal (BitVec.ofNat 32 b) n f x
      = (((∑ i : Fin 4096, if i.val < L / 16 + 1 then r (σ i) else 0) / ((L / 16 + 1 : ℕ) : ℝ) : ℝ) : EReal) := by
  have hLv : ∀ x, lenV (BitVec.ofNat 32 b) n x = BitVec.ofNat 32 L := fun x => (lenV_eq b hb n x).trans hn
  have hkv := kOf_eq _ L hL' hLv
  have hm := maskTo_eq L r _ hL' hLv f hf
  have hk0 : L / 16 + 1 ≤ count L r (fval 0) := by
    rw [le_count_iff L r σ hσ (fval 0) (fval_nonneg 0) (L / 16 + 1) (by omega) (by omega)]
    unfold masked
    rw [if_pos (valid_first L r σ hσ hL' _ (by show L / 16 + 1 - 1 < L; omega)), fval_zero, EReal.coe_le_coe_iff]
    exact hr _
  unfold taskVal
  generalize lenV (BitVec.ofNat 32 b) n = Lv at *
  generalize kOf Lv = kv at *
  generalize maskTo Lv 4096 f = f' at *
  have hbis := fun x => (bis_eq (floored L r) f' hm (fun w => count L r (fval w)) (fun w => rfl) kv (L / 16 + 1) (by omega) hkv 31 x).1
  obtain ⟨hlo1, hlo2, hlo3⟩ := sb_final (fun w => count L r (fval w)) (L / 16 + 1) hk0
  generalize (sb (fun w => count L r (fval w)) (L / 16 + 1) 31).1 = lo at *
  obtain ⟨ha, hb'⟩ := separates L r σ hσ (L / 16 + 1) (by omega) (by omega) lo hlo2 hlo3 w hw hwa hwb
  have hxk : ∀ x, (bitcastToFloat .f32 (bis f' kv 31).1 : FVec Ideal S16 .f32) x = ((fval lo : ℝ) : EReal) := fun x => by
    show Ideal.ofBits .f32 ((bis f' kv 31).1 x) = _
    rw [hbis, ofBits_word _ (by omega)]
  generalize (bitcastToFloat .f32 (bis f' kv 31).1 : FVec Ideal S16 .f32) = xk at *
  have h1 := fin_cnt_all (floored L r) f' hm xk (fval lo) hxk x
  have h2 := fin_val_all (floored L r) f' hm xk (fval lo) hxk x
  have h3 := sum_top L r σ hσ hL' (L / 16 + 1) (by omega) (by omega) (fval lo) (fval_nonneg lo) ha hb'
  have hcard : (Finset.univ.filter fun y : Fin 4096 => fval lo < floored L r y).card ≤ 4096 :=
    (Finset.card_filter_le _ _).trans (by simp)
  rw [outOf_at kv xk _ x _ rfl _ rfl, h1, h2, hkv, hxk, sub_toInt _ _ (by omega) hcard, toInt_ofNat_of_lt (by omega), h3]
  have hk : ((L / 16 + 1 : ℕ) : ℝ) ≠ 0 := by positivity
  unfold Ideal.div
  rw [if_neg (by
    rw [← EReal.coe_zero, EReal.coe_eq_coe_iff]; exact_mod_cast hk)]
  rw [← EReal.coe_mul, ← EReal.coe_add, ← EReal.coe_inv, ← EReal.coe_mul, div_eq_mul_inv]
  rw [Int.cast_sub, Int.cast_natCast, Int.cast_natCast]

end Cert.Proof.KernelIdeal

end
-- ==== Proof.RefSort.lean ====
/-
  The reference's sort, its `k`, its lookup, its mask and its running sums, read at an index.
-/
module

public import proofs.«01_k».proof.Proof.RefDefs
public import proofs.«01_k».proof.Proof.Math.Select
public import Idealize.ShloMosaic.Lib.SortFacts
public import Idealize.ShloMosaic.Lib.ReduceAll
public import Idealize.ShloMosaic.Lib.WordCmp
public import Idealize.ShloMosaic.Lib.ValueIdxCore
public import Idealize.ShloMosaic.Lib.Pipeline.Value
public import Idealize.ShloMosaic.PureOps.Ideal.Laws

@[expose] public section

noncomputable section

namespace Cert.Proof.RefVal

open Cert.Pre_admitted Cert.Pre_admitted.Facts
open Idealize.ShloMosaic Idealize.ShloMosaic.ValueIdx

/-- The sort's comparator on extended reals is `<`. -/
theorem cmp_lt (x y : EReal) : comparator_f32_d1 (F := Ideal) x y = BitVec.ofBool (decide (x < y)) := by
  have h0 : (FloatOps.ofBits .f32 0x00000000#32 : Ideal .f32) = (0 : EReal) := by
    simp [Idealize.ShloMosaic.Ideal.ofBits, Idealize.ShloMosaic.Ideal.ieee]
  have hs : ∀ z : EReal, Scalar.select (FloatOps.cmpf (F := Ideal) (φ := .f32) .une z z) (FloatOps.ofBits .f32 0x7FC00000#32 : Ideal .f32)
      (Scalar.select (FloatOps.cmpf (F := Ideal) (φ := .f32) .oeq z (FloatOps.ofBits .f32 0x00000000#32 : Ideal .f32))
        (FloatOps.ofBits .f32 0x00000000#32 : Ideal .f32) z) = z := by
    intro z
    rw [h0]
    have h1 : FloatOps.cmpf (F := Ideal) (φ := .f32) .une z z = 0#1 := by
      show Idealize.ShloMosaic.Ideal.cmp .une z z = _
      simp [Idealize.ShloMosaic.Ideal.cmp]
    have h2 : FloatOps.cmpf (F := Ideal) (φ := .f32) .oeq z (0 : EReal) = BitVec.ofBool (decide (z = 0)) := by
      show Idealize.ShloMosaic.Ideal.cmp .oeq z 0 = _
      simp [Idealize.ShloMosaic.Ideal.cmp]
    rw [h1, h2]
    by_cases hz : z = 0
    · subst hz; simp [Scalar.select]
    · simp [Scalar.select, hz]
  unfold comparator_f32_d1
  dsimp only
  rw [hs, hs]
  rfl

/-- A bijection is a permutation. -/
theorem exists_perm {α : Type} {f : α → α} (h : Function.Bijective f) : ∃ σ : Equiv.Perm α, ∀ i, σ i = f i :=
  ⟨Equiv.ofBijective f h, fun _ => rfl⟩

/-- Each row of the sort is a permutation of the row, in descending order. -/
theorem sortR_row (x : V S16x4096) (b : Fin 16) : ∃ σ : Equiv.Perm (Fin 4096),
    (∀ i, sortR x (ix2 b i) = x (ix2 b (σ i))) ∧ ∀ i j, i ≤ j → x (ix2 b (σ j)) ≤ x (ix2 b (σ i)) := by
  obtain ⟨R, hRd⟩ : ∃ R : Fin 4096 → Fin 4096 → Bool, R = fun k k' =>
    comparator_f32_d1 (F := Ideal) (Host.negf x (ix2 b k)) (Host.negf x (ix2 b k')) == 1#1 := ⟨_, rfl⟩
  have hneg : ∀ k : Fin 4096, Host.negf x (ix2 b k) = (-(x (ix2 b k) : EReal) : EReal) := fun _ => rfl
  have hR : ∀ k k', R k k' = false ↔ (x (ix2 b k) : EReal) ≤ x (ix2 b k') := by
    intro k k'
    rw [hRd]
    dsimp only
    rw [cmp_lt, hneg, hneg]
    by_cases h : (x (ix2 b k) : EReal) ≤ x (ix2 b k')
    · simp [h, not_lt.mpr h]
    · simp [h, not_le.mp h]
  have hbij : Function.Bijective (sortedFrom R) := ⟨sortedFrom_injective R, sortedFrom_surjective R⟩
  obtain ⟨σ, hσ⟩ : ∃ σ : Equiv.Perm (Fin 4096), ∀ i, σ i = sortedFrom R i := exists_perm hbij
  refine ⟨σ, ?_, ?_⟩
  · intro i
    let al : Fin 4096 → S16x4096.Idx := fun k => Shape.Idx.along (s := S16x4096) (ix2 b i) 1 k
    have hal : al = fun k => ix2 b k := by
      funext k a
      match a with
      | ⟨0, _⟩ => rfl
      | ⟨1, _⟩ => rfl
    have hs : fn_sort (F := Ideal) (Host.negf x) (ix2 b i)
        = Host.negf x (al (sortedFrom (fun k k' =>
          comparator_f32_d1 (F := Ideal) (Host.negf x (al k)) (Host.negf x (al k')) == 1#1) i)) := rfl
    rw [hal] at hs
    have e : sortR x (ix2 b i) = (-(fn_sort (F := Ideal) (Host.negf x) (ix2 b i) : EReal) : EReal) := rfl
    rw [e, hs, ← hRd, hneg, hσ]
    exact neg_neg (x (ix2 b (sortedFrom R i)) : EReal)
  · intro i j hij
    rcases hij.eq_or_lt with rfl | hlt
    · exact le_rfl
    · have h := sortedFrom_noInversion R R (fun a c h => ?_) (fun _ _ h => h) (fun a c e h1 h2 =>
          (hR a e).mpr (le_trans (α := EReal) ((hR a c).mp h1) ((hR c e).mp h2))) i j hlt
      · rw [hσ, hσ]
        exact (hR _ _).mp h
      · have h' : ¬ (x (ix2 b a) : EReal) ≤ x (ix2 b c) := fun hc => by rw [(hR a c).mpr hc] at h; exact absurd h (by decide)
        exact (hR c a).mpr (le_of_lt (α := EReal) (not_le.mp h'))

/-- `k` of a row whose length is `L`. -/
theorem kR_at (n : IVec S16 32) (b : Fin 16) (L : ℕ) (hL : L ≤ 4096) (hn : n (ix1 b) = BitVec.ofNat 32 L) (h16 : 16 ≤ L) :
    kR n (ix1 b) = BitVec.ofNat 32 (L / 16 + 1) := by
  have hm : (BitVec.ofNat 32 L).msb = false := by
    rw [BitVec.msb_eq_false_iff_two_mul_lt, BitVec.toNat_ofNat]; omega
  have hq : IntOp.divsi .host (BitVec.ofNat 32 L) 16#32 = BitVec.ofNat 32 (L / 16) := by
    unfold IntOp.divsi
    rw [if_neg (by unfold IntOp.SDivCorner; simp), BitVec.sdiv_eq, hm]
    show (BitVec.ofNat 32 L).udiv 16#32 = _
    apply BitVec.eq_of_toNat_eq
    show (BitVec.ofNat 32 L / 16#32).toNat = _
    rw [BitVec.toNat_udiv, BitVec.toNat_ofNat, BitVec.toNat_ofNat, BitVec.toNat_ofNat, Nat.mod_eq_of_lt (by omega : L < 2 ^ 32),
      Nat.mod_eq_of_lt (by omega : L / 16 < 2 ^ 32)]
  have hsg : signi n (ix1 b) = 1#32 := by
    unfold signi
    rw [hn, if_neg (by intro h; have := congrArg BitVec.toNat h; rw [BitVec.toNat_ofNat] at this; simp at this; omega), hm]
    rfl
  have e : kR n (ix1 b) = IntOp.addi (Scalar.select (IntOp.andi (IntOp.cmpi .ne (signi n (ix1 b)) (if (16#32 : BitVec 32) = 0 then 0 else if (16#32 : BitVec 32).msb then -1 else 1))
      (IntOp.cmpi .ne (IntOp.remsi .host (n (ix1 b)) 16#32) 0#32)) (IntOp.subi (IntOp.divsi .host (n (ix1 b)) 16#32) 1#32)
      (IntOp.divsi .host (n (ix1 b)) 16#32)) 1#32 := rfl
  have h0 : ∀ y, IntOp.andi (IntOp.cmpi .ne 1#32 1#32) y = 0#1 := by decide
  rw [e, hsg, show (if (16#32 : BitVec 32) = 0 then 0 else if (16#32 : BitVec 32).msb then -1 else 1 : BitVec 32) = 1#32 by decide, h0, hn, hq]
  show BitVec.ofNat 32 (L / 16) + 1#32 = _
  apply BitVec.eq_of_toNat_eq
  rw [BitVec.toNat_add, BitVec.toNat_ofNat, BitVec.toNat_ofNat, BitVec.toNat_ofNat]
  omega

/-- `k` less one. -/
theorem k1R_at (n : IVec S16 32) (b : Fin 16) (L : ℕ) (hL : L ≤ 4096) (hn : n (ix1 b) = BitVec.ofNat 32 L) (h16 : 16 ≤ L) :
    k1R n (ix1 b) = BitVec.ofNat 32 (L / 16) := by
  have e : k1R n (ix1 b) = IntOp.subi (kR n (ix1 b)) 1#32 := rfl
  rw [e, kR_at n b L hL hn h16]
  show BitVec.ofNat 32 (L / 16 + 1) - 1#32 = _
  apply BitVec.eq_of_toNat_eq
  rw [BitVec.toNat_sub, BitVec.toNat_ofNat, BitVec.toNat_ofNat, BitVec.toNat_ofNat]
  omega

/-- The lookup of every row at its own index. -/
theorem takeR_at (x : V S16x4096) (i : IVec S16 32) (b : Fin 16) (j : Fin 4096) (hi : i (ix1 b) = BitVec.ofNat 32 j.val)
    (hall : ∀ b', ∃ j' : Fin 4096, i (ix1 b') = BitVec.ofNat 32 j'.val) :
    takeR x i (ix2 b 0) = x (ix2 b j) := by
  have hc : ∀ b' : Fin 16, broadcastInDim S16x1 ![0] bcast_S16_S16x1_0 i (ix2 b' 0) = i (ix1 b') := fun b' =>
    broadcastInDim_apply _ _ i _ (ix1 b') (fun a => by match a with | ⟨0, _⟩ => rfl)
  unfold takeR fn_take_along_axis
  dsimp only
  generalize broadcastInDim S16x1 ![0] bcast_S16_S16x1_0 i = u at hc ⊢
  have hw : ∀ (y : S16x1x1.Idx), shapeCast S16x1x1
      (select (cmpi .slt u (broadcastInDim S16x1 ![] bcast_S_S16x1 (constantI S_ 32 0#32)))
        (addi u (broadcastInDim S16x1 ![] bcast_S_S16x1 (constantI S_ 32 4096#32))) u) shapeCasts_S16x1_S16x1x1 y
      = i (ix1 (y 0)) := by
    intro y
    obtain ⟨j', hj'⟩ := hall (y 0)
    have hlt := j'.isLt
    refine (shapeCast_apply _ _ y (ix2 (y 0) 0) ?_).trans ?_
    · have e1 : (y 1).val < 1 := (y 1).isLt
      have e2 : (y 2).val < 1 := (y 2).isLt
      rw [Shape.rowMajor_val_two, Shape.rowMajor_val_three]
      show (y 0).val * 1 + 0 = ((y 0).val * 1 + (y 1).val) * 1 + (y 2).val
      omega
    · show Scalar.select (IntOp.cmpi .slt (u (ix2 (y 0) 0)) 0#32) (IntOp.addi (u (ix2 (y 0) 0)) 4096#32) (u (ix2 (y 0) 0)) = _
      rw [hc (y 0), hj', show (0#32) = BitVec.ofNat 32 0 from rfl, WordCmp.cmpi_slt_ofNat (by omega) (by omega)]
      simp [Scalar.select]
  generalize shapeCast S16x1x1
      (select (cmpi .slt u (broadcastInDim S16x1 ![] bcast_S_S16x1 (constantI S_ 32 0#32)))
        (addi u (broadcastInDim S16x1 ![] bcast_S_S16x1 (constantI S_ 32 4096#32))) u) shapeCasts_S16x1_S16x1x1 = W at hw ⊢
  have hr : Host.reduce IntOp.andi (andi (cmpi .sge W (broadcastInDim S16x1x1 ![] bcast_S_S16x1x1 (constantI S_ 32 0#32)))
      (cmpi .sle W (broadcastInDim S16x1x1 ![0, 1, 2] bcast_S1x1x1_S16x1x1_0_1_2 (broadcastInDim S1x1x1 ![2] bcast_S1_S1x1x1_2 (constantI S1 32 4095#32)))))
      (constantI S_ 1 1#1) reducesTo_S16x1x1_S16x1_d2 h_S_ (ix2 b 0) = 1#1 := by
    refine Host.reduce_andi_one _ _ _ _ _ rfl (fun y => ?_)
    obtain ⟨j', hj'⟩ := hall (y 0)
    have hlt := j'.isLt
    show IntOp.andi (IntOp.cmpi .sge (W y) 0#32) (IntOp.cmpi .sle (W y) 4095#32) = 1#1
    rw [hw, hj', show (0#32) = BitVec.ofNat 32 0 from rfl, show (4095#32) = BitVec.ofNat 32 4095 from rfl,
      WordCmp.cmpi_sge_ofNat (by omega) (by omega), WordCmp.cmpi_sle_ofNat (by omega) (by omega)]
    rw [decide_eq_true (by omega), decide_eq_true (by omega)]
    rfl
  show Scalar.select _ (Host.gather gather_S16x4096_S16x1x1_S16x1_n_1_0_0_1_2_11 x W (ix2 b 0)) _ = _
  rw [hr]
  show Host.gather gather_S16x4096_S16x1x1_S16x1_n_1_0_0_1_2_11 x W (ix2 b 0) = _
  have hlt := j.isLt
  unfold Host.gather
  refine congrArg x (funext fun a => Fin.ext ?_)
  show gather_S16x4096_S16x1x1_S16x1_n_1_0_0_1_2_11.start (ix2 b 0) W a + gather_S16x4096_S16x1x1_S16x1_n_1_0_0_1_2_11.batchCoord (ix2 b 0) a
      + gather_S16x4096_S16x1x1_S16x1_n_1_0_0_1_2_11.offCoord (ix2 b 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16x4096_S16x1x1_S16x1_n_1_0_0_1_2_11.operandBatchingDims from List.mem_singleton.mpr rfl)]
    rfl
  · rw [GatherDims.batchCoord_eq_zero _ _ _ (fun h => by simp [gather_S16x4096_S16x1x1_S16x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x4096_S16x1x1_S16x1_n_1_0_0_1_2_11.startIndexMap from List.mem_singleton.mpr rfl)]
    have hsi : gather_S16x4096_S16x1x1_S16x1_n_1_0_0_1_2_11.siIdx (ix2 b 0) ⟨List.idxOf (1 : Fin 2) gather_S16x4096_S16x1x1_S16x1_n_1_0_0_1_2_11.startIndexMap,
        List.idxOf_lt_length_iff.2 (List.mem_singleton.mpr rfl)⟩ 0 = b := Fin.ext rfl
    rw [hw, hsi, hi, WordCmp.toInt_ofNat_of_lt (by omega)]
    show min j.val 4095 = j.val
    omega

end Cert.Proof.RefVal

end
-- ==== Proof.RefIdx.lean ====
/-
  The reference's mask and running sums read at an index, and its result: the mean of a row's `k` greatest entries.
-/
module

public import proofs.«01_k».proof.Proof.RefSort
public import proofs.«01_k».proof.Proof.Math.Sums
public import Idealize.ShloMosaic.Lib.Routing.Ops

@[expose] public section

noncomputable section

namespace Cert.Proof.RefVal

open Cert.Pre_admitted Cert.Pre_admitted.Facts
open Idealize.ShloMosaic Idealize.ShloMosaic.ValueIdx
open Cert.Proof.Select

/-- The zero word, -/
theorem word_zero : Idealize.ShloMosaic.Ideal.ofBits .f32 0x00000000#32 = 0 := by
  simp [Idealize.ShloMosaic.Ideal.ofBits, Idealize.ShloMosaic.Ideal.ieee]

/-- the word of minus infinity, -/
theorem word_bot : Idealize.ShloMosaic.Ideal.ofBits .f32 0xFF800000#32 = ⊥ := by
  simp [Idealize.ShloMosaic.Ideal.ofBits, Idealize.ShloMosaic.Ideal.ieee]

/-- and the word of infinity. -/
theorem word_top : Idealize.ShloMosaic.Ideal.ofBits .f32 0x7F800000#32 = ⊤ := by
  simp [Idealize.ShloMosaic.Ideal.ofBits, Idealize.ShloMosaic.Ideal.ieee]

/-- The masked row. -/
theorem maskR_at (n : IVec S16 32) (x : V S16x4096) (b : Fin 16) (L : ℕ) (hL : L ≤ 4096) (hn : n (ix1 b) = BitVec.ofNat 32 L)
    (r : Fin 4096 → ℝ) (hr : ∀ y, x (ix2 b y) = ((r y : ℝ) : EReal)) (y : Fin 4096) : maskR n x (ix2 b y) = masked L r y := by
  have hy := y.isLt
  have h1 : broadcastInDim S16x4096 ![0, 1] bcast_S1x4096_S16x4096_0_1 (broadcastInDim S1x4096 ![1] bcast_S4096_S1x4096_1 (iotaInDim S4096 32 0)) (ix2 b y)
      = BitVec.ofNat 32 y.val :=
    (broadcastInDim_apply _ _ _ _ (ix2 0 y) (fun a => by match a with | ⟨0, _⟩ => rfl | ⟨1, _⟩ => rfl)).trans
      ((broadcastInDim_apply _ _ _ _ (ix1 y) (fun a => by match a with | ⟨0, _⟩ => rfl)).trans rfl)
  have h2 : broadcastInDim S16x4096 ![0, 1] bcast_S16x1_S16x4096_0_1 (broadcastInDim S16x1 ![0] bcast_S16_S16x1_0 n) (ix2 b y) = n (ix1 b) :=
    (broadcastInDim_apply _ _ _ _ (ix2 b 0) (fun a => by match a with | ⟨0, _⟩ => rfl | ⟨1, _⟩ => rfl)).trans
      (broadcastInDim_apply _ _ n _ (ix1 b) (fun a => by match a with | ⟨0, _⟩ => rfl))
  have e : maskR n x (ix2 b y) = Scalar.select (IntOp.cmpi .slt
      (broadcastInDim S16x4096 ![0, 1] bcast_S1x4096_S16x4096_0_1 (broadcastInDim S1x4096 ![1] bcast_S4096_S1x4096_1 (iotaInDim S4096 32 0)) (ix2 b y))
      (broadcastInDim S16x4096 ![0, 1] bcast_S16x1_S16x4096_0_1 (broadcastInDim S16x1 ![0] bcast_S16_S16x1_0 n) (ix2 b y)))
      (x (ix2 b y)) (Idealize.ShloMosaic.Ideal.ofBits .f32 0xFF800000#32) := rfl
  rw [e, h1, h2, hn, word_bot, WordCmp.cmpi_slt_ofNat (by omega) (by omega), WordCmp.select_decide, hr]
  rfl

/-- An entry kept where it is finite. -/
theorem safeR_coe (x : V S16x4096) (i : S16x4096.Idx) (t : ℝ) (h : x i = (t : EReal)) : safeR x i = (t : EReal) := by
  have e : safeR x i = Scalar.select (Idealize.ShloMosaic.Ideal.cmp .olt (max (x i : EReal) (-(x i))) (Idealize.ShloMosaic.Ideal.ofBits .f32 0x7F800000#32))
      (x i) (Idealize.ShloMosaic.Ideal.ofBits .f32 0x00000000#32) := rfl
  rw [e, h, word_top]
  have hlt : max (t : EReal) (-(t : EReal)) < ⊤ := by
    rw [← EReal.coe_neg]
    exact max_lt (EReal.coe_lt_top t) (EReal.coe_lt_top _)
  show Scalar.select (BitVec.ofBool (decide (max (t : EReal) (-(t : EReal)) < ⊤))) (t : EReal) _ = _
  rw [decide_eq_true hlt]
  rfl

/-- A left fold by addition is a sum. -/
theorem foldl_add {M ι : Type} [AddCommMonoid M] (l : List ι) (g : ι → M) (v : M) : l.foldl (fun r a => r + g a) v = v + (l.map g).sum := by
  induction l generalizing v with
  | nil => simp
  | cons a l ih => rw [List.foldl_cons, ih, List.map_cons, List.sum_cons, add_assoc]

/-- A sum over the part of a window that lies inside is a sum over the entries up to the window's end. -/
theorem sum_win {M : Type} [AddCommMonoid M] (F : ℕ → M) (N j : ℕ) (hj : j ≤ N) :
    (∑ w ∈ Finset.range (N + 1), if N ≤ j + w then F (j + w - N) else 0) = ∑ i ∈ Finset.range (N + 1), if i ≤ j then F i else 0 := by
  obtain ⟨d, rfl⟩ : ∃ d, N = j + d := ⟨N - j, by omega⟩
  rw [show j + d + 1 = d + (j + 1) by omega, Finset.sum_range_add _ d (j + 1), show d + (j + 1) = (j + 1) + d by omega, Finset.sum_range_add _ (j + 1) d]
  rw [Finset.sum_eq_zero (s := Finset.range d) (fun w hw => if_neg (by have := Finset.mem_range.mp hw; omega)), zero_add,
    Finset.sum_eq_zero (s := Finset.range d) (fun w hw => if_neg (by omega)), add_zero]
  refine Finset.sum_congr rfl fun w hw => ?_
  have := Finset.mem_range.mp hw
  rw [if_pos (by omega), if_pos (by omega)]
  congr 1
  omega

/-- A sum over a list of numbers is a sum over a range. -/
theorem list_range {M : Type} [AddCommMonoid M] (n : ℕ) (f : ℕ → M) : ((List.range n).map f).sum = ∑ i ∈ Finset.range n, f i := by
  induction n with
  | zero => simp
  | succ n ih => rw [List.range_succ, List.map_append, List.sum_append, ih, Finset.sum_range_succ]; simp

/-- The running sum. -/
theorem csumR_at (x : V S16x4096) (b : Fin 16) (j : Fin 4096) :
    csumR x (ix2 b j) = ∑ i : Fin 4096, if i.val ≤ j.val then (x (ix2 b i) : EReal) else 0 := by
  have hj := j.isLt
  obtain ⟨F, hF⟩ : ∃ F : ℕ → EReal, ∀ i : Fin 4096, x (ix2 b i) = F i.val :=
    ⟨fun i => if h : i < 4096 then x (ix2 b ⟨i, h⟩) else 0, fun i => by
      dsimp only
      rw [dif_pos i.isLt]⟩
  have hnum : ∀ n : Fin (Shape.numel ⟨2, ![1, 4096]⟩), ((⟨2, ![1, 4096]⟩ : Shape).rowMajor.symm n 0).val = 0
      ∧ ((⟨2, ![1, 4096]⟩ : Shape).rowMajor.symm n 1).val = n.val := fun n => by
    rw [Routing.symm2]; exact ⟨rfl, rfl⟩
  have hinit : (broadcastInDim S_ ![] Cert.ReferenceIdeal.Gen.bcast_S_S_ (constant (F := Ideal) S_ .f32 0x00000000#32)) (Shape.Idx.first h_S_) = (0 : EReal) := word_zero
  unfold csumR Host.reduceWindowAdd
  rw [Idealize.ShloMosaic.Ideal.hostReduceWindowAdd_def, hinit]
  unfold Idealize.ShloMosaic.Ideal.hostReduceWindowAdd Host.reduceWindow
  rw [foldl_add, zero_add]
  refine (congrArg List.sum (List.map_congr_left (g := fun n => if 4095 ≤ j.val + n.val then F (j.val + n.val - 4095) else 0) fun n _ => ?_)).trans ?_
  · obtain ⟨h0, h1⟩ := hnum n
    have hn : n.val < 4096 := (n.cast (Routing.numel2 4096)).isLt
    dsimp only
    split
    · next hin =>
      have h2 := (hin 1).1
      change 4095 ≤ j.val * 1 + ((⟨2, ![1, 4096]⟩ : Shape).rowMajor.symm n 1).val at h2
      rw [h1] at h2
      rw [if_pos (by omega), ← hF ⟨j.val + n.val - 4095, by omega⟩]
      refine congrArg x (funext fun a => Fin.ext ?_)
      match a with
      | ⟨0, _⟩ =>
        show b.val * 1 + ((⟨2, ![1, 4096]⟩ : Shape).rowMajor.symm n 0).val - 0 = b.val
        rw [h0]; omega
      | ⟨1, _⟩ =>
        show j.val * 1 + ((⟨2, ![1, 4096]⟩ : Shape).rowMajor.symm n 1).val - 4095 = j.val + n.val - 4095
        rw [h1, Nat.mul_one]
    · next hin =>
      rw [if_neg fun hle => hin fun a => by
        match a with
        | ⟨0, _⟩ =>
          show 0 ≤ b.val * 1 + ((⟨2, ![1, 4096]⟩ : Shape).rowMajor.symm n 0).val ∧ b.val * 1 + ((⟨2, ![1, 4096]⟩ : Shape).rowMajor.symm n 0).val - 0 < 16
          rw [h0]
          have := b.isLt
          omega
        | ⟨1, _⟩ =>
          show 4095 ≤ j.val * 1 + ((⟨2, ![1, 4096]⟩ : Shape).rowMajor.symm n 1).val
            ∧ j.val * 1 + ((⟨2, ![1, 4096]⟩ : Shape).rowMajor.symm n 1).val - 4095 < 4096
          rw [h1]
          omega]
  rw [Routing.map_finRange_val _ (fun w => if 4095 ≤ j.val + w then F (j.val + w - 4095) else 0)]
  refine (congrArg (fun M => ((List.range M).map fun w => if 4095 ≤ j.val + w then F (j.val + w - 4095) else 0).sum) (Routing.numel2 4096)).trans ?_
  rw [list_range]
  refine (sum_win F 4095 j.val (by omega)).trans ?_
  rw [Finset.sum_range]
  exact Finset.sum_congr rfl fun i _ => by rw [hF i]

/-- The reference's result at row `b`: the mean of the `k` greatest entries. -/
theorem outR_at (n : IVec S16 32) (x : V S16x4096) (b : Fin 16) (Ln : Fin 16 → ℕ) (hL : ∀ b, Ln b ≤ 4096) (h16 : ∀ b, 16 ≤ Ln b)
    (hn : ∀ b, n (ix1 b) = BitVec.ofNat 32 (Ln b)) (r : Fin 4096 → ℝ) (hr : ∀ y, x (ix2 b y) = ((r y : ℝ) : EReal))
    (σ : Equiv.Perm (Fin 4096)) (hσ : ∀ i, sortR (maskR n x) (ix2 b i) = maskR n x (ix2 b (σ i)))
    (hord : ∀ i j, i ≤ j → masked (Ln b) r (σ j) ≤ masked (Ln b) r (σ i)) :
    outR n x (ix1 b) = (((∑ i : Fin 4096, if i.val < Ln b / 16 + 1 then r (σ i) else 0) / ((Ln b / 16 + 1 : ℕ) : ℝ) : ℝ) : EReal) := by
  have hLb := hL b
  have h16b := h16 b
  have hk := kR_at n b (Ln b) hLb (hn b) h16b
  have hk1 : ∀ b, k1R n (ix1 b) = BitVec.ofNat 32 (Ln b / 16) := fun b => k1R_at n b (Ln b) (hL b) (hn b) (h16 b)
  have e : outR n x (ix1 b) = Idealize.ShloMosaic.Ideal.div
      (shapeCast S16 (takeR (csumR (safeR (sortR (maskR n x)))) (k1R n)) Cert.ReferenceIdeal.Gen.shapeCasts_S16x1_S16 (ix1 b))
      (((kR n (ix1 b)).toInt : ℝ) : EReal) := rfl
  have hc : shapeCast S16 (takeR (csumR (safeR (sortR (maskR n x)))) (k1R n)) Cert.ReferenceIdeal.Gen.shapeCasts_S16x1_S16 (ix1 b)
      = takeR (csumR (safeR (sortR (maskR n x)))) (k1R n) (ix2 b 0) := by
    refine shapeCast_apply _ _ _ _ ?_
    rw [Shape.rowMajor_val_two, Shape.rowMajor_val_one]
    show b.val * 1 + 0 = b.val
    omega
  have hlt : Ln b / 16 < 4096 := by omega
  rw [e, hc, takeR_at _ _ b ⟨Ln b / 16, hlt⟩ (hk1 b) (fun b' => ⟨⟨Ln b' / 16, by have := hL b'; omega⟩, hk1 b'⟩), csumR_at, hk,
    WordCmp.toInt_ofNat_of_lt (by omega)]
  have hs : (∑ i : Fin 4096, if i.val ≤ Ln b / 16 then (safeR (sortR (maskR n x)) (ix2 b i) : EReal) else 0)
      = ((∑ i : Fin 4096, if i.val < Ln b / 16 + 1 then r (σ i) else 0 : ℝ) : EReal) := by
    rw [Cert.Proof.KernelIdeal.coe_sum]
    refine Finset.sum_congr rfl fun i _ => ?_
    by_cases hi : i.val ≤ Ln b / 16
    · rw [if_pos hi, if_pos (by omega)]
      refine safeR_coe _ _ _ ?_
      rw [hσ, maskR_at n x b (Ln b) hLb (hn b) r hr]
      unfold masked
      rw [if_pos (valid_first (Ln b) r σ hord hLb i (by omega))]
    · rw [if_neg hi, if_neg (by omega)]
      rfl
  rw [hs]
  have hk : ((Ln b / 16 + 1 : ℕ) : ℝ) ≠ 0 := by positivity
  unfold Idealize.ShloMosaic.Ideal.div
  rw [Int.cast_natCast, if_neg (by
    rw [← EReal.coe_zero, EReal.coe_eq_coe_iff]; exact_mod_cast hk)]
  rw [← EReal.coe_inv, ← EReal.coe_mul, div_eq_mul_inv]

end Cert.Proof.RefVal

end
-- ==== Proof.PreSpec.lean ====
/-
  What the precondition says: every float argument is finite, every length is between 16 and 4096, and on every row some
  word below one lies between the `k`-th greatest entry and the next.
-/
module

public import proofs.«01_k».proof.Proof.RefIdx
public import Idealize.ShloMosaic.Lib.Affine

@[expose] public section

noncomputable section

namespace Cert.Proof.RefVal

open Cert.Pre_admitted Cert.Pre_admitted.Facts
open Idealize.ShloMosaic Idealize.ShloMosaic.ValueIdx
open Cert.Proof.Words

instance : Subsingleton (S_.Idx) := ⟨fun _ _ => funext fun a => a.elim0⟩

/-- Every element of an array is a real number. -/
def Fin' {s : Shape} (x : V s) : Prop := ∀ i, ∃ t : ℝ, x i = (t : EReal)

/-- An extended real whose absolute value is below infinity is a real. -/
theorem coe_of_lt (x : EReal) (h : Idealize.ShloMosaic.Ideal.cmp .olt (max x (-x)) (Idealize.ShloMosaic.Ideal.ofBits .f32 0x7F800000#32) = 1#1) :
    ∃ t : ℝ, x = (t : EReal) := by
  rw [word_top] at h
  change BitVec.ofBool (decide (max x (-x) < ⊤)) = 1#1 at h
  have hlt : max x (-x) < ⊤ := by
    by_contra hc
    rw [decide_eq_false hc] at h
    exact absurd h (by decide)
  induction x using EReal.rec with
  | bot => simp at hlt
  | top => simp at hlt
  | coe t => exact ⟨t, rfl⟩

/-- If a disjunction is true, one of its members is. -/
theorem foldl_ori {ι : Type} (f : ι → BitVec 1) (l : List ι) (v : BitVec 1) (h : l.foldl (fun r n => IntOp.ori r (f n)) v = 1#1) :
    v = 1#1 ∨ ∃ n ∈ l, f n = 1#1 := by
  induction l generalizing v with
  | nil => exact Or.inl h
  | cons a l ih =>
    rcases ih _ h with h1 | ⟨n, hn, h1⟩
    · rcases IntOp.ori_eq_one.mp h1 with h2 | h2
      · exact Or.inl h2
      · exact Or.inr ⟨a, List.mem_cons_self .., h2⟩
    · exact Or.inr ⟨n, List.mem_cons_of_mem _ hn, h1⟩

/-- The first part of the precondition: every float argument is finite. -/
theorem finP_spec (a0 : V S16x4096x128) (a2 : V S512x128) (a3 : V S512) (a4 : V S32x512) (a5 : V S32) (a6 : V S1x32) (a7 : V S1)
    (h : finP a0 a2 a3 a4 a5 a6 a7 ix0 = 1#1) : Fin' a0 ∧ Fin' a2 ∧ Fin' a3 ∧ Fin' a4 ∧ Fin' a5 ∧ Fin' a6 ∧ Fin' a7 := by
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨_, h0⟩ := IntOp.andi_eq_one.mp h
  exact ⟨fun i => coe_of_lt _ (Host.reduce_andi_all _ _ _ _ _ h0 i), fun i => coe_of_lt _ (Host.reduce_andi_all _ _ _ _ _ h2 i),
    fun i => coe_of_lt _ (Host.reduce_andi_all _ _ _ _ _ h3 i), fun i => coe_of_lt _ (Host.reduce_andi_all _ _ _ _ _ h4 i),
    fun i => coe_of_lt _ (Host.reduce_andi_all _ _ _ _ _ h5 i), fun i => coe_of_lt _ (Host.reduce_andi_all _ _ _ _ _ h6 i),
    fun i => coe_of_lt _ (Host.reduce_andi_all _ _ _ _ _ h7 i)⟩

/-- The second: every length is between 16 and 4096. -/
theorem lenP_spec (n : IVec S16 32) (h : lenP n ix0 = 1#1) (b : Fin 16) :
    16 ≤ (n (ix1 b)).toNat ∧ (n (ix1 b)).toNat ≤ 4096 ∧ n (ix1 b) = BitVec.ofNat 32 (n (ix1 b)).toNat := by
  have e := Host.reduce_andi_all _ _ _ _ _ h (ix1 b)
  obtain ⟨e1, e2⟩ := IntOp.andi_eq_one.mp e
  generalize hw : n (ix1 b) = w at *
  have e1' : IntOp.cmpi .sge (n (ix1 b)) 16#32 = 1#1 := e1
  have e2' : IntOp.cmpi .sle (n (ix1 b)) 4096#32 = 1#1 := e2
  rw [hw] at e1' e2'
  have ob : ∀ x : Bool, BitVec.ofBool x = 1#1 → x = true := by decide
  have f1 : (16#32).sle w = true := ob _ e1'
  have f2 : w.sle 4096#32 = true := ob _ e2'
  rw [BitVec.sle_iff_toInt_le] at f1 f2
  have g1 : (16#32).toInt = 16 := by decide
  have g2 : (4096#32).toInt = 4096 := by decide
  rw [g1] at f1
  rw [g2] at f2
  have hlt := w.isLt
  rw [BitVec.toInt_eq_toNat_cond] at f1 f2
  split_ifs at f1 f2 with hc
  · exact ⟨by omega, by omega, by simp⟩
  · exfalso; omega

/-- The third: in every row some scale separates. -/
theorem allP_spec (s : IVec S16x126 1) (h : allP s ix0 = 1#1) (b : Fin 16) : ∃ q : Fin 126, s (ix2 b q) = 1#1 := by
  have e := Host.reduce_andi_all _ _ _ _ _ h (ix1 b)
  rw [Host.reduce_eq_foldl] at e
  rcases foldl_ori s _ _ e with h1 | ⟨i, hi, h1⟩
  · exact absurd h1 (by decide)
  · have hd : reducesTo_S16x126_S16_d1.drop i = ix1 b := by simpa using (List.mem_filter.mp hi).2
    have h0 := congrArg (fun j : S16.Idx => (j 0).val) hd
    have h2 : (i 0).val = b.val := (Shape.ReducesTo.drop_apply_val_of_eq reducesTo_S16x126_S16_d1 i 0 0).symm.trans h0
    refine ⟨i 1, ?_⟩
    rw [← h1]
    refine congrArg s (funext fun a => Fin.ext ?_)
    match a with
    | ⟨0, _⟩ => exact h2.symm
    | ⟨1, _⟩ => rfl

/-- A number of 24 bits at a power of two between two reals gives a word between them. -/
theorem sep_word (l a : ℝ) (hl : 0 ≤ l) (p : ℕ) (hp : 24 ≤ p) (hp' : p ≤ 149)
    (h : a * (2 : ℝ) ^ p ≤ min (⌊l * (2 : ℝ) ^ p⌋ : ℝ) 16777215) : ∃ w, w < 0x3F800000 ∧ a ≤ fval w ∧ fval w ≤ l := by
  have hP : (0 : ℝ) < (2 : ℝ) ^ p := by positivity
  have hf : (0 : ℤ) ≤ ⌊l * (2 : ℝ) ^ p⌋ := Int.floor_nonneg.mpr (by positivity)
  obtain ⟨M, hM⟩ := Int.eq_ofNat_of_zero_le hf
  have hMl : (M : ℝ) ≤ l * (2 : ℝ) ^ p := by
    have := Int.floor_le (l * (2 : ℝ) ^ p)
    rw [hM] at this
    exact_mod_cast this
  rw [hM] at h
  obtain ⟨w, hw, hv⟩ := exists_word (min M 16777215) p (by omega) hp hp'
  have hz : (2 : ℝ) ^ (-(p : ℤ)) = ((2 : ℝ) ^ p)⁻¹ := by rw [zpow_neg, zpow_natCast]
  rw [hz] at hv
  refine ⟨w, hw, ?_, ?_⟩
  · rw [hv, le_mul_inv_iff₀ hP]
    push_cast
    exact_mod_cast h
  · rw [hv, mul_inv_le_iff₀ hP]
    push_cast
    exact (min_le_left _ _).trans hMl

/-- The word of two. -/
theorem word_two : Idealize.ShloMosaic.Ideal.ofBits .f32 0x40000000#32 = ((2 : ℝ) : EReal) := by
  simp [Idealize.ShloMosaic.Ideal.ofBits, Idealize.ShloMosaic.Ideal.ieee]
  rw [← EReal.coe_mul]
  norm_num

/-- The word of `2 ^ 24 - 1`. -/
theorem word_max : Idealize.ShloMosaic.Ideal.ofBits .f32 0x4B7FFFFF#32 = ((16777215 : ℝ) : EReal) := by
  simp [Idealize.ShloMosaic.Ideal.ofBits, Idealize.ShloMosaic.Ideal.ieee]

/-- The scales tried are powers of two. -/
theorem scaleP_at (q : Fin 126) : scaleP (ix2 0 q) = (((2 : ℝ) ^ (24 + q.val) : ℝ) : EReal) := by
  have hq := q.isLt
  have e : scaleP (ix2 0 q) = Idealize.ShloMosaic.Ideal.pow (Idealize.ShloMosaic.Ideal.ofBits .f32 0x40000000#32)
      (((24#32 + BitVec.ofNat 32 q.val).toInt : ℝ) : EReal) := by
    refine (broadcastInDim_apply _ _ _ _ (ix1 q) (fun a => by match a with | ⟨0, _⟩ => rfl)).trans rfl
  have ew : 24#32 + BitVec.ofNat 32 q.val = BitVec.ofNat 32 (24 + q.val) := by
    apply BitVec.eq_of_toNat_eq
    rw [BitVec.toNat_add, BitVec.toNat_ofNat, BitVec.toNat_ofNat, BitVec.toNat_ofNat]
    omega
  rw [e, word_two, ew, WordCmp.toInt_ofNat_of_lt (by omega)]
  show ((Real.rpow 2 (((24 + q.val : ℕ) : ℤ) : ℝ) : ℝ) : EReal) = _
  rw [Int.cast_natCast]
  congr 1
  exact Real.rpow_natCast 2 (24 + q.val)

/-- A scale that separates gives a word whose float lies between the two logits. -/
theorem sepP_spec (last after : V S16x1) (b : Fin 16) (q : Fin 126) (l a : ℝ) (hl : 0 ≤ l) (el : last (ix2 b 0) = (l : EReal))
    (ea : after (ix2 b 0) = (a : EReal)) (h : sepP last after (ix2 b q) = 1#1) : ∃ w, w < 0x3F800000 ∧ a ≤ fval w ∧ fval w ≤ l := by
  have hq := q.isLt
  have b1 : ∀ x : V S16x1, broadcastInDim S16x126 ![0, 1] bcast_S16x1_S16x126_0_1 x (ix2 b q) = x (ix2 b 0) := fun x =>
    broadcastInDim_apply _ _ _ _ (ix2 b 0) (fun a => by match a with | ⟨0, _⟩ => rfl | ⟨1, _⟩ => rfl)
  have b2 : broadcastInDim S16x126 ![0, 1] bcast_S1x126_S16x126_0_1 scaleP (ix2 b q) = scaleP (ix2 0 q) :=
    broadcastInDim_apply _ _ _ _ (ix2 0 q) (fun a => by match a with | ⟨0, _⟩ => rfl | ⟨1, _⟩ => rfl)
  have e : sepP last after (ix2 b q) = Idealize.ShloMosaic.Ideal.cmp .ole
      ((broadcastInDim S16x126 ![0, 1] bcast_S16x1_S16x126_0_1 after (ix2 b q) : EReal) * broadcastInDim S16x126 ![0, 1] bcast_S1x126_S16x126_0_1 scaleP (ix2 b q))
      (min (Idealize.ShloMosaic.Ideal.liftRound Int.floor ((broadcastInDim S16x126 ![0, 1] bcast_S16x1_S16x126_0_1 last (ix2 b q) : EReal)
        * broadcastInDim S16x126 ![0, 1] bcast_S1x126_S16x126_0_1 scaleP (ix2 b q))) (Idealize.ShloMosaic.Ideal.ofBits .f32 0x4B7FFFFF#32)) := rfl
  rw [e, b1, b1, b2, scaleP_at, el, ea, word_max, ← EReal.coe_mul, ← EReal.coe_mul, Idealize.ShloMosaic.Ideal.liftRound_coe] at h
  change BitVec.ofBool (decide ((a * 2 ^ (24 + q.val) : ℝ) ≤ min ((⌊l * 2 ^ (24 + q.val)⌋ : ℝ) : EReal) ((16777215 : ℝ) : EReal))) = 1#1 at h
  have hle : ((a * 2 ^ (24 + q.val) : ℝ) : EReal) ≤ min ((⌊l * 2 ^ (24 + q.val)⌋ : ℝ) : EReal) ((16777215 : ℝ) : EReal) := by
    by_contra hc
    rw [decide_eq_false hc] at h
    exact absurd h (by decide)
  refine sep_word l a hl (24 + q.val) (by omega) (by omega) ?_
  rw [le_min_iff, EReal.coe_le_coe_iff, EReal.coe_le_coe_iff] at hle
  exact le_min hle.1 hle.2

end Cert.Proof.RefVal

end
-- ==== Proof.Rows.lean ====
/-
  One row: under the precondition's parts, the SparseCore task's vector and the reference's result are the same real.
-/
module

public import proofs.«01_k».proof.Proof.KernelIdeal.ScVal
public import proofs.«01_k».proof.Proof.RefIdx
public import proofs.«01_k».proof.Proof.PreSpec

@[expose] public section

noncomputable section

namespace Cert.Proof.RefVal

open Cert.Pre_admitted Cert.Pre_admitted.Facts
open Idealize.ShloMosaic Idealize.ShloMosaic.ValueIdx
open Cert.Proof.Select (masked valid_first)
open Cert.Proof.KernelIdeal (taskVal taskVal_eq ln)

/-- Row `b` of the kernel's result, and of the reference's. -/
theorem rows_eq (n : IVec S16 32) (x : V S16x4096) (R : Fin 16 → Fin 4096 → ℝ) (hR : ∀ b y, 0 ≤ R b y)
    (hx : ∀ b y, x (ix2 b y) = ((R b y : ℝ) : EReal)) (hlen : lenP n ix0 = 1#1)
    (hall : allP (sepP (takeR (sortR (maskR n x)) (k1R n)) (takeR (sortR (maskR n x)) (kR n))) ix0 = 1#1)
    (b : Fin 16) (f : Vec Ideal ⟨1, ![4096]⟩ .f32) (hf : ∀ y, f y = ((R b (y 0) : ℝ) : EReal)) (z : Shape.Idx ⟨1, ![16]⟩) :
    taskVal (F := Ideal) (BitVec.ofNat 32 b.val) n f z = outR n x (ix1 b) := by
  obtain ⟨Ln, hLn⟩ : ∃ Ln : Fin 16 → ℕ, ∀ b, Ln b = (n (ix1 b)).toNat := ⟨_, fun _ => rfl⟩
  have h16 : ∀ b, 16 ≤ Ln b := fun b => (hLn b).symm ▸ (lenP_spec n hlen b).1
  have hL : ∀ b, Ln b ≤ 4096 := fun b => (hLn b).symm ▸ (lenP_spec n hlen b).2.1
  have hn : ∀ b, n (ix1 b) = BitVec.ofNat 32 (Ln b) := fun b => (hLn b).symm ▸ (lenP_spec n hlen b).2.2
  obtain ⟨σ, hσ, hord⟩ := sortR_row (maskR n x) b
  have hm := maskR_at n x b (Ln b) (hL b) (hn b) (R b) (hx b)
  have hord' : ∀ i j, i ≤ j → masked (Ln b) (R b) (σ j) ≤ masked (Ln b) (R b) (σ i) := fun i j hij => by
    have h := hord i j hij
    rwa [hm, hm] at h
  have hLb := hL b
  have h16b := h16 b
  have b1 : Ln b / 16 < 4096 := by omega
  have b2 : Ln b / 16 + 1 < 4096 := by omega
  have hk : ∀ b', kR n (ix1 b') = BitVec.ofNat 32 (Ln b' / 16 + 1) := fun b' => kR_at n b' (Ln b') (hL b') (hn b') (h16 b')
  have hk1 : ∀ b', k1R n (ix1 b') = BitVec.ofNat 32 (Ln b' / 16) := fun b' => k1R_at n b' (Ln b') (hL b') (hn b') (h16 b')
  have el : takeR (sortR (maskR n x)) (k1R n) (ix2 b 0) = masked (Ln b) (R b) (σ ⟨Ln b / 16, b1⟩) :=
    (takeR_at _ _ b ⟨Ln b / 16, b1⟩ (hk1 b) fun b' => ⟨⟨Ln b' / 16, by have := hL b'; omega⟩, hk1 b'⟩).trans ((hσ _).trans (hm _))
  have ea : takeR (sortR (maskR n x)) (kR n) (ix2 b 0) = masked (Ln b) (R b) (σ ⟨Ln b / 16 + 1, b2⟩) :=
    (takeR_at _ _ b ⟨Ln b / 16 + 1, b2⟩ (hk b) fun b' => ⟨⟨Ln b' / 16 + 1, by have := hL b'; omega⟩, hk b'⟩).trans ((hσ _).trans (hm _))
  have vl : (σ ⟨Ln b / 16, b1⟩).val < Ln b := valid_first (Ln b) (R b) σ hord' hLb _ (by show Ln b / 16 < Ln b; omega)
  have va : (σ ⟨Ln b / 16 + 1, b2⟩).val < Ln b := valid_first (Ln b) (R b) σ hord' hLb _ (by show Ln b / 16 + 1 < Ln b; omega)
  have ml : masked (Ln b) (R b) (σ ⟨Ln b / 16, b1⟩) = ((R b (σ ⟨Ln b / 16, b1⟩) : ℝ) : EReal) := if_pos vl
  have ma : masked (Ln b) (R b) (σ ⟨Ln b / 16 + 1, b2⟩) = ((R b (σ ⟨Ln b / 16 + 1, b2⟩) : ℝ) : EReal) := if_pos va
  obtain ⟨q, hq⟩ := allP_spec _ hall b
  obtain ⟨w, hw, hwb, hwa⟩ := sepP_spec _ _ b q _ _ (hR b _) (el.trans ml) (ea.trans ma) hq
  have eln : (ln b.val : Shape.Idx ⟨1, ![16]⟩) = ix1 b := funext fun a => by
    match a with
    | ⟨0, _⟩ => exact Fin.ext (Nat.mod_eq_of_lt b.isLt)
  rw [outR_at n x b Ln hL h16 hn (R b) (hx b) σ hσ hord']
  exact taskVal_eq (Ln b) (R b) b.val b.isLt n h16b hLb ((congrArg n eln).trans (hn b)) f hf (hR b) σ hord' w hw
    (ml ▸ EReal.coe_le_coe_iff.mpr hwa) (ma ▸ EReal.coe_le_coe_iff.mpr hwb) z

end Cert.Proof.RefVal

end
-- ==== Proof.Algebraic.lean ====
/-
  The algebraic claim: on arguments the precondition admits, the kernel's result is the reference's.
-/
module

public import proofs.«01_k».proof.Proof.TcVal
public import proofs.«01_k».proof.Proof.Rows
public import proofs.«01_k».proof.Proof.Ref

@[expose] public section

set_option maxRecDepth 16384

noncomputable section

namespace Cert.Proof

open Idealize.ShloMosaic Idealize.ShloMosaic.TcCoe Idealize.SL.Sem
open Cert.Proof.KernelIdeal (W5 W5_v6 G G_at rowOf rowOf_logitArr logitArr run_main)
open Cert.Proof.RefVal

/-- The kernel's result on one device, from the arguments there. -/
theorem result_eq (m : (ℓ : Loc Cert.KernelIdeal.nD Cert.KernelIdeal.τ Cert.KernelIdeal.sig) → Buf (Elt Ideal) ℓ)
    (hpre : Cert.Pre_KernelIdeal_admitted m) (c : Dev Cert.KernelIdeal.nD) :
    (W5 m c (Proc.devRef .tc Cert.KernelIdeal.main_v6) : Cert.Pre_admitted.S16.Idx → EReal)
      = outR (m (c.tc.loc Cert.KernelIdeal.main_arg1))
        (logitsR (m (c.tc.loc Cert.KernelIdeal.main_arg0)) (m (c.tc.loc Cert.KernelIdeal.main_arg2)) (m (c.tc.loc Cert.KernelIdeal.main_arg3))
          (m (c.tc.loc Cert.KernelIdeal.main_arg4)) (m (c.tc.loc Cert.KernelIdeal.main_arg5)) (m (c.tc.loc Cert.KernelIdeal.main_arg6))
          (m (c.tc.loc Cert.KernelIdeal.main_arg7))) := by
  have h := (congrFun (pre_eq _ _ _ _ _ _ _ _) ValueIdx.ix0).symm.trans (congrFun (hpre c) ValueIdx.ix0)
  obtain ⟨h, hall⟩ := IntOp.andi_eq_one.mp h
  obtain ⟨hfin, hlen⟩ := IntOp.andi_eq_one.mp h
  obtain ⟨f0, f2, f3, f4, f5, f6, f7⟩ := finP_spec _ _ _ _ _ _ _ hfin
  choose x0 h0 using f0
  choose x2 h2 using f2
  choose x3 h3 using f3
  choose x4 h4 using f4
  choose x5 h5 using f5
  choose x6 h6 using f6
  choose x7 h7 using f7
  have hx := logitsR_at _ _ _ _ _ _ _ x0 x2 x3 x4 x5 x6 x7 h0 h2 h3 h4 h5 h6 h7
  have hG := G_at m x0 x2 x3 x4 x5 x6 x7 c h0 h2 h3 h4 h5 h6 h7
  funext y
  have hy : (y 0).val < 16 := (y 0).isLt
  have ey : y = ix1 (n0 := 16) ⟨(y 0).val, hy⟩ := funext fun a => by match a with | ⟨0, _⟩ => rfl
  rw [ey]
  refine (W5_v6 m c _).trans ?_
  refine rows_eq _ _ (logit x0 x2 x3 x4 x5 x6 x7) (fun _ _ => sig_nonneg _) hx hlen hall ⟨(y 0).val, hy⟩ _ (fun z => ?_) _
  rw [hG]
  exact rowOf_logitArr x0 x2 x3 x4 x5 x6 x7 ⟨(y 0).val, hy⟩ z

/-- `Cert.algebraic_KernelIdeal_ReferenceIdeal_pre_admitted` (Defs.lean). -/
theorem algebraic : Cert.algebraic_KernelIdeal_ReferenceIdeal_pre_admitted := by
  intro m g m' g' hpre hagree
  refine ⟨fun c => W5 m c (Proc.devRef .tc Cert.KernelIdeal.main_v6),
    (θ_run Cert.KernelIdeal.defs _ _).mono (fun _ h => h.1) (run_main m g),
    (θ_run Cert.ReferenceIdeal.defs _ _).mono (fun r h c => ⟨?_, (h c).2⟩) (Cert.ReferenceIdeal.Value.run (F := Ideal) m' g')⟩
  refine (h c).1.trans ((res_eq m' c).trans ?_)
  obtain ⟨e0, e1, e2, e3, e4, e5, e6, e7⟩ := hagree c
  rw [e0, e1, e2, e3, e4, e5, e6, e7]
  exact (result_eq m hpre c).symm

end Cert.Proof

end
-- ==== Proof.lean ====
module

public import proofs.«01_k».proof.Defs
public import proofs.«01_k».proof.Proof.Kernel.Launch
public import proofs.«01_k».proof.Proof.KernelIdeal.Launch
public import proofs.«01_k».proof.Proof.Ref
public import proofs.«01_k».proof.Proof.PreFacts
public import proofs.«01_k».proof.Proof.Algebraic

@[expose] public section

noncomputable section

namespace Cert.Proof

open Idealize.ShloMosaic Idealize.SL.Sem

/-- Every claim. -/
theorem claim : Cert.Claim := ⟨Cert.Kernel.Gen.facts, Cert.KernelIdeal.Gen.facts, Cert.ReferenceIdeal.Gen.facts, Pre.facts,
  Kernel.frame, KernelIdeal.frame, fun m ρ _ => KernelIdeal.frame m ρ trivial, Ref.frame, fun m ρ _ => Ref.frame m ρ trivial, trivial, algebraic⟩

end Cert.Proof

end
